-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x8192x1024 : Shape := ⟨3, ![4, 8192, 1024]⟩
abbrev S16x1024 : Shape := ⟨2, ![16, 1024]⟩
abbrev S33554432 : Shape := ⟨1, ![33554432]⟩
abbrev S16384 : Shape := ⟨1, ![16384]⟩
abbrev S4 : Shape := ⟨1, ![4]⟩
abbrev S_ : Shape := ⟨0, ![]⟩
abbrev S1 : Shape := ⟨1, ![1]⟩
abbrev S16 : Shape := ⟨1, ![16]⟩

abbrev nBuf : Table → Nat
  | .hbm => 6
  | .local .scVector .vmem => 5
  | _ => 0

abbrev bufTy : (tb : Table) → Fin (nBuf tb) → BufTy
  | .hbm, ⟨0, _⟩ => ⟨S4x8192x1024, .f32⟩
  | .hbm, ⟨1, _⟩ => ⟨S16x1024, .f32⟩
  | .hbm, ⟨2, _⟩ => ⟨S33554432, .f32⟩
  | .hbm, ⟨3, _⟩ => ⟨S16384, .f32⟩
  | .hbm, ⟨4, _⟩ => ⟨S33554432, .f32⟩
  | .hbm, ⟨5, _⟩ => ⟨S4x8192x1024, .f32⟩
  | .local .scVector .vmem, ⟨0, _⟩ => ⟨S16384, .f32⟩
  | .local .scVector .vmem, ⟨1, _⟩ => ⟨S16384, .f32⟩
  | .local .scVector .vmem, ⟨2, _⟩ => ⟨S16384, .f32⟩
  | .local .scVector .vmem, ⟨3, _⟩ => ⟨S16384, .f32⟩
  | .local .scVector .vmem, ⟨4, _⟩ => ⟨S16384, .f32⟩
  | _, _ => ⟨S4x8192x1024, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 9 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | _ => false

abbrev sig : RefSig :=
  ofTables nBuf rfl bufTy 4 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v0_scv : Ref sig .scVector := ⟨.hbm, 2, rfl⟩
abbrev main_v1_scv : Ref sig .scVector := ⟨.hbm, 3, rfl⟩
abbrev main_v2_scv : Ref sig .scVector := ⟨.hbm, 4, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1048576_i32 : BitVec 32 := 1048576#32
  let v2 : BitVec 32 := Scalar.muli v1 c1048576_i32
  let v3 : BitVec 32 := Scalar.addi v2 c0_i32
  ![v3.toNat]
def k0_off1_at (r : Fin 7) : BitVec 32 :=
  if r.val < 3 then
    if r.val < 1 then
      0#32
    else
      if r.val < 2 then
        16384#32
      else
        32768#32
  else
    if r.val < 5 then
      if r.val < 4 then
        983040#32
      else
        999424#32
    else
      if r.val < 6 then
        1015808#32
      else
        1032192#32
@[reducible] def k0_t1_loop : Scf.Loop 32 :=
  let c0_i32_3 : BitVec 32 := 0#32
  let c16_i32 : BitVec 32 := 16#32
  let v18 : BitVec 32 := Scalar.addi c0_i32_3 c16_i32
  let c1_i32_4 : BitVec 32 := 1#32
  ⟨c0_i32_3, v18, c1_i32_4⟩
def k0_off2 (i : grid0.Coords) (k0_t1 : Fin k0_t1_loop.trips) (c0_i32_9 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1048576_i32 : BitVec 32 := 1048576#32
  let v2 : BitVec 32 := Scalar.muli v1 c1048576_i32
  let c0_i32_3 : BitVec 32 := 0#32
  let c1_i32_4 : BitVec 32 := 1#32
  let arg12 : BitVec 32 := Scf.iv c0_i32_3 c1_i32_4 k0_t1
  let c4_i32 : BitVec 32 := 4#32
  let v39 : BitVec 32 := Scalar.muli arg12 c4_i32
  let v40 : BitVec 32 := Scalar.addi v39 c0_i32_9
  let c16384_i32_10 : BitVec 32 := 16384#32
  let v41 : BitVec 32 := Scalar.muli v40 c16384_i32_10
  let v42 : BitVec 32 := Scalar.addi v2 v41
  ![v42.toNat]
@[reducible] def k0_t2_loop : Scf.Loop 32 :=
  let c0_i32_12 : BitVec 32 := 0#32
  let c1024_i32 : BitVec 32 := 1024#32
  let v47 : BitVec 32 := Scalar.addi c0_i32_12 c1024_i32
  let c1_i32_13 : BitVec 32 := 1#32
  ⟨c0_i32_12, v47, c1_i32_13⟩
def k0_off3 (k0_t2 : Fin k0_t2_loop.trips) : Fin 1 → Nat :=
  let c0_i32_60 : BitVec 32 := 0#32
  let c0_i32_12 : BitVec 32 := 0#32
  let c1_i32_13 : BitVec 32 := 1#32
  let arg13 : BitVec 32 := Scf.iv c0_i32_12 c1_i32_13 k0_t2
  let c16_i32_59 : BitVec 32 := 16#32
  let v116 : BitVec 32 := Scalar.muli arg13 c16_i32_59
  let v117 : BitVec 32 := Scalar.addi c0_i32_60 v116
  let v118 : Index := Scalar.indexCast v117
  ![v118.toNat]
def k0_cond1 (k0_t1 : Fin k0_t1_loop.trips) : BitVec 1 :=
  let c0_i32_3 : BitVec 32 := 0#32
  let c1_i32_4 : BitVec 32 := 1#32
  let arg12 : BitVec 32 := Scf.iv c0_i32_3 c1_i32_4 k0_t1
  let c4_i32 : BitVec 32 := 4#32
  let v39 : BitVec 32 := Scalar.muli arg12 c4_i32
  let c0_i32_9 : BitVec 32 := 0#32
  let v40 : BitVec 32 := Scalar.addi v39 c0_i32_9
  let c4_i32_17 : BitVec 32 := 4#32
  let v54 : BitVec 32 := Scalar.addi v40 c4_i32_17
  let c1_i32_18 : BitVec 32 := 1#32
  let v55 : BitVec 32 := Scalar.subi v54 c1_i32_18
  let c64_i32 : BitVec 32 := 64#32
  let v56 : BitVec 1 := Scalar.cmpi .slt v55 c64_i32
  let v57 : BitVec 32 := Scalar.extui v56
  let c0_i32_19 : BitVec 32 := 0#32
  let v58 : BitVec 1 := Scalar.cmpi .ne v57 c0_i32_19
  v58

def k0_cond2 (k0_t1 : Fin k0_t1_loop.trips) : BitVec 1 :=
  let c0_i32_3 : BitVec 32 := 0#32
  let c1_i32_4 : BitVec 32 := 1#32
  let arg12 : BitVec 32 := Scf.iv c0_i32_3 c1_i32_4 k0_t1
  let c4_i32 : BitVec 32 := 4#32
  let v39 : BitVec 32 := Scalar.muli arg12 c4_i32
  let c0_i32_9 : BitVec 32 := 0#32
  let v40 : BitVec 32 := Scalar.addi v39 c0_i32_9
  let c4_i32_17 : BitVec 32 := 4#32
  let v54 : BitVec 32 := Scalar.addi v40 c4_i32_17
  let c1_i32_18 : BitVec 32 := 1#32
  let v55 : BitVec 32 := Scalar.subi v54 c1_i32_18
  let c4_i32_59 : BitVec 32 := 4#32
  let v116 : BitVec 1 := Scalar.cmpi .sge v55 c4_i32_59
  let v117 : BitVec 32 := Scalar.extui v116
  let c0_i32_60 : BitVec 32 := 0#32
  let v118 : BitVec 1 := Scalar.cmpi .ne v117 c0_i32_60
  v118

def k0_off4 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1048576_i32 : BitVec 32 := 1048576#32
  let v2 : BitVec 32 := Scalar.muli v1 c1048576_i32
  let c0_i32_3 : BitVec 32 := 0#32
  let c1_i32_4 : BitVec 32 := 1#32
  let arg12 : BitVec 32 := Scf.iv c0_i32_3 c1_i32_4 k0_t1
  let c4_i32 : BitVec 32 := 4#32
  let v39 : BitVec 32 := Scalar.muli arg12 c4_i32
  let c0_i32_9 : BitVec 32 := 0#32
  let v40 : BitVec 32 := Scalar.addi v39 c0_i32_9
  let c4_i32_17 : BitVec 32 := 4#32
  let v54 : BitVec 32 := Scalar.addi v40 c4_i32_17
  let c1_i32_18 : BitVec 32 := 1#32
  let v55 : BitVec 32 := Scalar.subi v54 c1_i32_18
  let c4_i32_63 : BitVec 32 := 4#32
  let v125 : BitVec 32 := Scalar.subi v55 c4_i32_63
  let c16384_i32_64 : BitVec 32 := 16384#32
  let v126 : BitVec 32 := Scalar.muli v125 c16384_i32_64
  let v127 : BitVec 32 := Scalar.addi v2 v126
  ![v127.toNat]
def k0_off5 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1048576_i32 : BitVec 32 := 1048576#32
  let v2 : BitVec 32 := Scalar.muli v1 c1048576_i32
  let c0_i32_3 : BitVec 32 := 0#32
  let c1_i32_4 : BitVec 32 := 1#32
  let arg12 : BitVec 32 := Scf.iv c0_i32_3 c1_i32_4 k0_t1
  let c4_i32 : BitVec 32 := 4#32
  let v39 : BitVec 32 := Scalar.muli arg12 c4_i32
  let c0_i32_9 : BitVec 32 := 0#32
  let v40 : BitVec 32 := Scalar.addi v39 c0_i32_9
  let c4_i32_17 : BitVec 32 := 4#32
  let v54 : BitVec 32 := Scalar.addi v40 c4_i32_17
  let c1_i32_18 : BitVec 32 := 1#32
  let v55 : BitVec 32 := Scalar.subi v54 c1_i32_18
  let c16384_i32_61 : BitVec 32 := 16384#32
  let v119 : BitVec 32 := Scalar.muli v55 c16384_i32_61
  let v120 : BitVec 32 := Scalar.addi v2 v119
  ![v120.toNat]
@[reducible] def k0_t3_loop : Scf.Loop 32 :=
  let c0_i32_23 : BitVec 32 := 0#32
  let c1024_i32_24 : BitVec 32 := 1024#32
  let v66 : BitVec 32 := Scalar.addi c0_i32_23 c1024_i32_24
  let c1_i32_25 : BitVec 32 := 1#32
  ⟨c0_i32_23, v66, c1_i32_25⟩
def k0_off6 (k0_t3 : Fin k0_t3_loop.trips) : Fin 1 → Nat :=
  let c0_i32_60 : BitVec 32 := 0#32
  let c0_i32_23 : BitVec 32 := 0#32
  let c1_i32_25 : BitVec 32 := 1#32
  let arg13 : BitVec 32 := Scf.iv c0_i32_23 c1_i32_25 k0_t3
  let c16_i32_59 : BitVec 32 := 16#32
  let v116 : BitVec 32 := Scalar.muli arg13 c16_i32_59
  let v117 : BitVec 32 := Scalar.addi c0_i32_60 v116
  let v118 : Index := Scalar.indexCast v117
  ![v118.toNat]
def k0_cond3 (k0_t1 : Fin k0_t1_loop.trips) : BitVec 1 :=
  let c0_i32_3 : BitVec 32 := 0#32
  let c1_i32_4 : BitVec 32 := 1#32
  let arg12 : BitVec 32 := Scf.iv c0_i32_3 c1_i32_4 k0_t1
  let c4_i32 : BitVec 32 := 4#32
  let v39 : BitVec 32 := Scalar.muli arg12 c4_i32
  let c1_i32_20 : BitVec 32 := 1#32
  let v59 : BitVec 32 := Scalar.addi v39 c1_i32_20
  let c4_i32_29 : BitVec 32 := 4#32
  let v73 : BitVec 32 := Scalar.addi v59 c4_i32_29
  let c1_i32_30 : BitVec 32 := 1#32
  let v74 : BitVec 32 := Scalar.subi v73 c1_i32_30
  let c64_i32_31 : BitVec 32 := 64#32
  let v75 : BitVec 1 := Scalar.cmpi .slt v74 c64_i32_31
  let v76 : BitVec 32 := Scalar.extui v75
  let c0_i32_32 : BitVec 32 := 0#32
  let v77 : BitVec 1 := Scalar.cmpi .ne v76 c0_i32_32
  v77

def k0_cond4 (k0_t1 : Fin k0_t1_loop.trips) : BitVec 1 :=
  let c0_i32_3 : BitVec 32 := 0#32
  let c1_i32_4 : BitVec 32 := 1#32
  let arg12 : BitVec 32 := Scf.iv c0_i32_3 c1_i32_4 k0_t1
  let c4_i32 : BitVec 32 := 4#32
  let v39 : BitVec 32 := Scalar.muli arg12 c4_i32
  let c1_i32_20 : BitVec 32 := 1#32
  let v59 : BitVec 32 := Scalar.addi v39 c1_i32_20
  let c4_i32_29 : BitVec 32 := 4#32
  let v73 : BitVec 32 := Scalar.addi v59 c4_i32_29
  let c1_i32_30 : BitVec 32 := 1#32
  let v74 : BitVec 32 := Scalar.subi v73 c1_i32_30
  let c4_i32_59 : BitVec 32 := 4#32
  let v116 : BitVec 1 := Scalar.cmpi .sge v74 c4_i32_59
  let v117 : BitVec 32 := Scalar.extui v116
  let c0_i32_60 : BitVec 32 := 0#32
  let v118 : BitVec 1 := Scalar.cmpi .ne v117 c0_i32_60
  v118

def k0_off7 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1048576_i32 : BitVec 32 := 1048576#32
  let v2 : BitVec 32 := Scalar.muli v1 c1048576_i32
  let c0_i32_3 : BitVec 32 := 0#32
  let c1_i32_4 : BitVec 32 := 1#32
  let arg12 : BitVec 32 := Scf.iv c0_i32_3 c1_i32_4 k0_t1
  let c4_i32 : BitVec 32 := 4#32
  let v39 : BitVec 32 := Scalar.muli arg12 c4_i32
  let c1_i32_20 : BitVec 32 := 1#32
  let v59 : BitVec 32 := Scalar.addi v39 c1_i32_20
  let c4_i32_29 : BitVec 32 := 4#32
  let v73 : BitVec 32 := Scalar.addi v59 c4_i32_29
  let c1_i32_30 : BitVec 32 := 1#32
  let v74 : BitVec 32 := Scalar.subi v73 c1_i32_30
  let c4_i32_63 : BitVec 32 := 4#32
  let v125 : BitVec 32 := Scalar.subi v74 c4_i32_63
  let c16384_i32_64 : BitVec 32 := 16384#32
  let v126 : BitVec 32 := Scalar.muli v125 c16384_i32_64
  let v127 : BitVec 32 := Scalar.addi v2 v126
  ![v127.toNat]
def k0_off8 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1048576_i32 : BitVec 32 := 1048576#32
  let v2 : BitVec 32 := Scalar.muli v1 c1048576_i32
  let c0_i32_3 : BitVec 32 := 0#32
  let c1_i32_4 : BitVec 32 := 1#32
  let arg12 : BitVec 32 := Scf.iv c0_i32_3 c1_i32_4 k0_t1
  let c4_i32 : BitVec 32 := 4#32
  let v39 : BitVec 32 := Scalar.muli arg12 c4_i32
  let c1_i32_20 : BitVec 32 := 1#32
  let v59 : BitVec 32 := Scalar.addi v39 c1_i32_20
  let c4_i32_29 : BitVec 32 := 4#32
  let v73 : BitVec 32 := Scalar.addi v59 c4_i32_29
  let c1_i32_30 : BitVec 32 := 1#32
  let v74 : BitVec 32 := Scalar.subi v73 c1_i32_30
  let c16384_i32_61 : BitVec 32 := 16384#32
  let v119 : BitVec 32 := Scalar.muli v74 c16384_i32_61
  let v120 : BitVec 32 := Scalar.addi v2 v119
  ![v120.toNat]
@[reducible] def k0_t4_loop : Scf.Loop 32 :=
  let c0_i32_36 : BitVec 32 := 0#32
  let c1024_i32_37 : BitVec 32 := 1024#32
  let v85 : BitVec 32 := Scalar.addi c0_i32_36 c1024_i32_37
  let c1_i32_38 : BitVec 32 := 1#32
  ⟨c0_i32_36, v85, c1_i32_38⟩
def k0_off9 (k0_t4 : Fin k0_t4_loop.trips) : Fin 1 → Nat :=
  let c0_i32_60 : BitVec 32 := 0#32
  let c0_i32_36 : BitVec 32 := 0#32
  let c1_i32_38 : BitVec 32 := 1#32
  let arg13 : BitVec 32 := Scf.iv c0_i32_36 c1_i32_38 k0_t4
  let c16_i32_59 : BitVec 32 := 16#32
  let v116 : BitVec 32 := Scalar.muli arg13 c16_i32_59
  let v117 : BitVec 32 := Scalar.addi c0_i32_60 v116
  let v118 : Index := Scalar.indexCast v117
  ![v118.toNat]
def k0_cond5 (k0_t1 : Fin k0_t1_loop.trips) : BitVec 1 :=
  let c0_i32_3 : BitVec 32 := 0#32
  let c1_i32_4 : BitVec 32 := 1#32
  let arg12 : BitVec 32 := Scf.iv c0_i32_3 c1_i32_4 k0_t1
  let c4_i32 : BitVec 32 := 4#32
  let v39 : BitVec 32 := Scalar.muli arg12 c4_i32
  let c2_i32_33 : BitVec 32 := 2#32
  let v78 : BitVec 32 := Scalar.addi v39 c2_i32_33
  let c4_i32_42 : BitVec 32 := 4#32
  let v92 : BitVec 32 := Scalar.addi v78 c4_i32_42
  let c1_i32_43 : BitVec 32 := 1#32
  let v93 : BitVec 32 := Scalar.subi v92 c1_i32_43
  let c64_i32_44 : BitVec 32 := 64#32
  let v94 : BitVec 1 := Scalar.cmpi .slt v93 c64_i32_44
  let v95 : BitVec 32 := Scalar.extui v94
  let c0_i32_45 : BitVec 32 := 0#32
  let v96 : BitVec 1 := Scalar.cmpi .ne v95 c0_i32_45
  v96

def k0_cond6 (k0_t1 : Fin k0_t1_loop.trips) : BitVec 1 :=
  let c0_i32_3 : BitVec 32 := 0#32
  let c1_i32_4 : BitVec 32 := 1#32
  let arg12 : BitVec 32 := Scf.iv c0_i32_3 c1_i32_4 k0_t1
  let c4_i32 : BitVec 32 := 4#32
  let v39 : BitVec 32 := Scalar.muli arg12 c4_i32
  let c2_i32_33 : BitVec 32 := 2#32
  let v78 : BitVec 32 := Scalar.addi v39 c2_i32_33
  let c4_i32_42 : BitVec 32 := 4#32
  let v92 : BitVec 32 := Scalar.addi v78 c4_i32_42
  let c1_i32_43 : BitVec 32 := 1#32
  let v93 : BitVec 32 := Scalar.subi v92 c1_i32_43
  let c4_i32_59 : BitVec 32 := 4#32
  let v116 : BitVec 1 := Scalar.cmpi .sge v93 c4_i32_59
  let v117 : BitVec 32 := Scalar.extui v116
  let c0_i32_60 : BitVec 32 := 0#32
  let v118 : BitVec 1 := Scalar.cmpi .ne v117 c0_i32_60
  v118

def k0_off10 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1048576_i32 : BitVec 32 := 1048576#32
  let v2 : BitVec 32 := Scalar.muli v1 c1048576_i32
  let c0_i32_3 : BitVec 32 := 0#32
  let c1_i32_4 : BitVec 32 := 1#32
  let arg12 : BitVec 32 := Scf.iv c0_i32_3 c1_i32_4 k0_t1
  let c4_i32 : BitVec 32 := 4#32
  let v39 : BitVec 32 := Scalar.muli arg12 c4_i32
  let c2_i32_33 : BitVec 32 := 2#32
  let v78 : BitVec 32 := Scalar.addi v39 c2_i32_33
  let c4_i32_42 : BitVec 32 := 4#32
  let v92 : BitVec 32 := Scalar.addi v78 c4_i32_42
  let c1_i32_43 : BitVec 32 := 1#32
  let v93 : BitVec 32 := Scalar.subi v92 c1_i32_43
  let c4_i32_63 : BitVec 32 := 4#32
  let v125 : BitVec 32 := Scalar.subi v93 c4_i32_63
  let c16384_i32_64 : BitVec 32 := 16384#32
  let v126 : BitVec 32 := Scalar.muli v125 c16384_i32_64
  let v127 : BitVec 32 := Scalar.addi v2 v126
  ![v127.toNat]
def k0_off11 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1048576_i32 : BitVec 32 := 1048576#32
  let v2 : BitVec 32 := Scalar.muli v1 c1048576_i32
  let c0_i32_3 : BitVec 32 := 0#32
  let c1_i32_4 : BitVec 32 := 1#32
  let arg12 : BitVec 32 := Scf.iv c0_i32_3 c1_i32_4 k0_t1
  let c4_i32 : BitVec 32 := 4#32
  let v39 : BitVec 32 := Scalar.muli arg12 c4_i32
  let c2_i32_33 : BitVec 32 := 2#32
  let v78 : BitVec 32 := Scalar.addi v39 c2_i32_33
  let c4_i32_42 : BitVec 32 := 4#32
  let v92 : BitVec 32 := Scalar.addi v78 c4_i32_42
  let c1_i32_43 : BitVec 32 := 1#32
  let v93 : BitVec 32 := Scalar.subi v92 c1_i32_43
  let c16384_i32_61 : BitVec 32 := 16384#32
  let v119 : BitVec 32 := Scalar.muli v93 c16384_i32_61
  let v120 : BitVec 32 := Scalar.addi v2 v119
  ![v120.toNat]
@[reducible] def k0_t5_loop : Scf.Loop 32 :=
  let c0_i32_49 : BitVec 32 := 0#32
  let c1024_i32_50 : BitVec 32 := 1024#32
  let v104 : BitVec 32 := Scalar.addi c0_i32_49 c1024_i32_50
  let c1_i32_51 : BitVec 32 := 1#32
  ⟨c0_i32_49, v104, c1_i32_51⟩
def k0_off12 (k0_t5 : Fin k0_t5_loop.trips) : Fin 1 → Nat :=
  let c0_i32_60 : BitVec 32 := 0#32
  let c0_i32_49 : BitVec 32 := 0#32
  let c1_i32_51 : BitVec 32 := 1#32
  let arg13 : BitVec 32 := Scf.iv c0_i32_49 c1_i32_51 k0_t5
  let c16_i32_59 : BitVec 32 := 16#32
  let v116 : BitVec 32 := Scalar.muli arg13 c16_i32_59
  let v117 : BitVec 32 := Scalar.addi c0_i32_60 v116
  let v118 : Index := Scalar.indexCast v117
  ![v118.toNat]
def k0_cond7 (k0_t1 : Fin k0_t1_loop.trips) : BitVec 1 :=
  let c0_i32_3 : BitVec 32 := 0#32
  let c1_i32_4 : BitVec 32 := 1#32
  let arg12 : BitVec 32 := Scf.iv c0_i32_3 c1_i32_4 k0_t1
  let c4_i32 : BitVec 32 := 4#32
  let v39 : BitVec 32 := Scalar.muli arg12 c4_i32
  let c3_i32_46 : BitVec 32 := 3#32
  let v97 : BitVec 32 := Scalar.addi v39 c3_i32_46
  let c4_i32_55 : BitVec 32 := 4#32
  let v111 : BitVec 32 := Scalar.addi v97 c4_i32_55
  let c1_i32_56 : BitVec 32 := 1#32
  let v112 : BitVec 32 := Scalar.subi v111 c1_i32_56
  let c64_i32_57 : BitVec 32 := 64#32
  let v113 : BitVec 1 := Scalar.cmpi .slt v112 c64_i32_57
  let v114 : BitVec 32 := Scalar.extui v113
  let c0_i32_58 : BitVec 32 := 0#32
  let v115 : BitVec 1 := Scalar.cmpi .ne v114 c0_i32_58
  v115

def k0_cond8 (k0_t1 : Fin k0_t1_loop.trips) : BitVec 1 :=
  let c0_i32_3 : BitVec 32 := 0#32
  let c1_i32_4 : BitVec 32 := 1#32
  let arg12 : BitVec 32 := Scf.iv c0_i32_3 c1_i32_4 k0_t1
  let c4_i32 : BitVec 32 := 4#32
  let v39 : BitVec 32 := Scalar.muli arg12 c4_i32
  let c3_i32_46 : BitVec 32 := 3#32
  let v97 : BitVec 32 := Scalar.addi v39 c3_i32_46
  let c4_i32_55 : BitVec 32 := 4#32
  let v111 : BitVec 32 := Scalar.addi v97 c4_i32_55
  let c1_i32_56 : BitVec 32 := 1#32
  let v112 : BitVec 32 := Scalar.subi v111 c1_i32_56
  let c4_i32_59 : BitVec 32 := 4#32
  let v116 : BitVec 1 := Scalar.cmpi .sge v112 c4_i32_59
  let v117 : BitVec 32 := Scalar.extui v116
  let c0_i32_60 : BitVec 32 := 0#32
  let v118 : BitVec 1 := Scalar.cmpi .ne v117 c0_i32_60
  v118

def k0_off13 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1048576_i32 : BitVec 32 := 1048576#32
  let v2 : BitVec 32 := Scalar.muli v1 c1048576_i32
  let c0_i32_3 : BitVec 32 := 0#32
  let c1_i32_4 : BitVec 32 := 1#32
  let arg12 : BitVec 32 := Scf.iv c0_i32_3 c1_i32_4 k0_t1
  let c4_i32 : BitVec 32 := 4#32
  let v39 : BitVec 32 := Scalar.muli arg12 c4_i32
  let c3_i32_46 : BitVec 32 := 3#32
  let v97 : BitVec 32 := Scalar.addi v39 c3_i32_46
  let c4_i32_55 : BitVec 32 := 4#32
  let v111 : BitVec 32 := Scalar.addi v97 c4_i32_55
  let c1_i32_56 : BitVec 32 := 1#32
  let v112 : BitVec 32 := Scalar.subi v111 c1_i32_56
  let c4_i32_63 : BitVec 32 := 4#32
  let v125 : BitVec 32 := Scalar.subi v112 c4_i32_63
  let c16384_i32_64 : BitVec 32 := 16384#32
  let v126 : BitVec 32 := Scalar.muli v125 c16384_i32_64
  let v127 : BitVec 32 := Scalar.addi v2 v126
  ![v127.toNat]
def k0_off14 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1048576_i32 : BitVec 32 := 1048576#32
  let v2 : BitVec 32 := Scalar.muli v1 c1048576_i32
  let c0_i32_3 : BitVec 32 := 0#32
  let c1_i32_4 : BitVec 32 := 1#32
  let arg12 : BitVec 32 := Scf.iv c0_i32_3 c1_i32_4 k0_t1
  let c4_i32 : BitVec 32 := 4#32
  let v39 : BitVec 32 := Scalar.muli arg12 c4_i32
  let c3_i32_46 : BitVec 32 := 3#32
  let v97 : BitVec 32 := Scalar.addi v39 c3_i32_46
  let c4_i32_55 : BitVec 32 := 4#32
  let v111 : BitVec 32 := Scalar.addi v97 c4_i32_55
  let c1_i32_56 : BitVec 32 := 1#32
  let v112 : BitVec 32 := Scalar.subi v111 c1_i32_56
  let c16384_i32_61 : BitVec 32 := 16384#32
  let v119 : BitVec 32 := Scalar.muli v112 c16384_i32_61
  let v120 : BitVec 32 := Scalar.addi v2 v119
  ![v120.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4x8192x1024 : Shape := ⟨3, ![4, 8192, 1024]⟩
abbrev S16x1024 : Shape := ⟨2, ![16, 1024]⟩
abbrev S16 : Shape := ⟨1, ![16]⟩
abbrev S_ : Shape := ⟨0, ![]⟩
abbrev S16x1 : Shape := ⟨2, ![16, 1]⟩
abbrev S1 : Shape := ⟨1, ![1]⟩
abbrev S1x1 : Shape := ⟨2, ![1, 1]⟩
abbrev S16x1x1024 : Shape := ⟨3, ![16, 1, 1024]⟩
abbrev S1x16x1024 : Shape := ⟨3, ![1, 16, 1024]⟩
abbrev S1x1x1x16x1x1024 : Shape := ⟨6, ![1, 1, 1, 16, 1, 1024]⟩
abbrev S1x1x512x16x1x1024 : Shape := ⟨6, ![1, 1, 512, 16, 1, 1024]⟩
abbrev S1x8192x1024 : Shape := ⟨3, ![1, 8192, 1024]⟩

abbrev nBuf : Space → Nat
  | .hbm => 33
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S16x1024, .f32⟩
  | .hbm, ⟨2, _⟩ => ⟨S16, .i32⟩
  | .hbm, ⟨3, _⟩ => ⟨S_, .i32⟩
  | .hbm, ⟨4, _⟩ => ⟨S16, .i32⟩
  | .hbm, ⟨5, _⟩ => ⟨S16, .i1⟩
  | .hbm, ⟨6, _⟩ => ⟨S_, .i32⟩
  | .hbm, ⟨7, _⟩ => ⟨S16, .i32⟩
  | .hbm, ⟨8, _⟩ => ⟨S16, .i32⟩
  | .hbm, ⟨9, _⟩ => ⟨S16, .i32⟩
  | .hbm, ⟨10, _⟩ => ⟨S16x1, .i32⟩
  | .hbm, ⟨11, _⟩ => ⟨S1, .i32⟩
  | .hbm, ⟨12, _⟩ => ⟨S_, .i32⟩
  | .hbm, ⟨13, _⟩ => ⟨S16x1, .i32⟩
  | .hbm, ⟨14, _⟩ => ⟨S16x1, .i1⟩
  | .hbm, ⟨15, _⟩ => ⟨S1x1, .i32⟩
  | .hbm, ⟨16, _⟩ => ⟨S16x1, .i32⟩
  | .hbm, ⟨17, _⟩ => ⟨S16x1, .i1⟩
  | .hbm, ⟨18, _⟩ => ⟨S16x1, .i1⟩
  | .hbm, ⟨19, _⟩ => ⟨S_, .i1⟩
  | .hbm, ⟨20, _⟩ => ⟨S16, .i1⟩
  | .hbm, ⟨21, _⟩ => ⟨S16x1024, .f32⟩
  | .hbm, ⟨22, _⟩ => ⟨S16x1024, .i1⟩
  | .hbm, ⟨23, _⟩ => ⟨S_, .f32⟩
  | .hbm, ⟨24, _⟩ => ⟨S16x1024, .f32⟩
  | .hbm, ⟨25, _⟩ => ⟨S16x1024, .f32⟩
  | .hbm, ⟨26, _⟩ => ⟨S16x1x1024, .f32⟩
  | .hbm, ⟨27, _⟩ => ⟨S1x16x1024, .f32⟩
  | .hbm, ⟨28, _⟩ => ⟨S1x1x1x16x1x1024, .f32⟩
  | .hbm, ⟨29, _⟩ => ⟨S1x1x512x16x1x1024, .f32⟩
  | .hbm, ⟨30, _⟩ => ⟨S1x8192x1024, .f32⟩
  | .hbm, ⟨31, _⟩ => ⟨S4x8192x1024, .f32⟩
  | .hbm, ⟨32, _⟩ => ⟨S4x8192x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_cst : Ref sig .tc := ⟨.hbm, 23, rfl⟩
abbrev main_call0_v15 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩

abbrev nD : Nat := 1
abbrev τ : Topo := Topo.v7x

variable {F : FTy → Type} [FloatOps F]
-- ==== Proof.Blocks.lean ====
/-
  The kernel's arithmetic. The array `x`, flat, has 33554432 elements: 2048 blocks of 16384, and the tile at
  coordinates `i` (SparseCore `i 0`, subcore `i 1`) works on the 64 blocks from number `64 · (2 · i 1 + i 0)` on. Every
  slice of `x` and of the result that the kernel names is one of these blocks, and every condition of the ring of four
  buffers compares a block's number with 4 or with 64. This module states both, once, for all the kernel's offsets.
-/
module

public import proofs.«01_k».proof.Defs
public import proofs.«01_k».proof.Proof.Gen.KernelIdeal
public import proofs.«01_k».proof.Proof.Gen.KernelIdeal.Skeleton

@[expose] public section

noncomputable section

namespace Cert.Proof.PosAdd

open Cert.KernelIdeal Cert.KernelIdeal.Gen
open Idealize.ShloMosaic

/-- The number, among all 2048, of the tile's block `n` (`n` is read modulo 64, so that it is always a block). -/
def blk (i : grid0.Coords) (n : ℕ) : ℕ := 64 * (2 * (i 1).val + (i 0).val) + n % 64

theorem coord0_lt (i : grid0.Coords) : (i 0).val < 2 := (i 0).isLt
theorem coord1_lt (i : grid0.Coords) : (i 1).val < 16 := (i 1).isLt

theorem blk_lt (i : grid0.Coords) (n : ℕ) : blk i n < 2048 := by
  have h0 := coord0_lt i
  have h1 := coord1_lt i
  unfold blk; omega

/-- The offset of the tile's block `n` in the flat arrays. -/
def off (i : grid0.Coords) (n : ℕ) : Fin 1 → ℕ := ![16384 * blk i n]

theorem off_inb (i : grid0.Coords) (n : ℕ) : ∀ a, off i n a + S16384.size a ≤ S33554432.size a := by
  intro a
  have h := blk_lt i n
  fin_cases a
  show 16384 * blk i n + 16384 ≤ 33554432
  omega

/-- The offset in closed form, for `n` below 64. -/
theorem off_eq (i : grid0.Coords) {n p : ℕ} (hn : n < 64) (hp : p = 2097152 * (i 1).val + 1048576 * (i 0).val + 16384 * n) :
    (![p] : Fin 1 → ℕ) = off i n := by
  unfold off blk
  rw [Nat.mod_eq_of_lt hn, hp]
  congr 1; omega

/-- The group loop makes 16 trips. -/
theorem trips1 : k0_t1_loop.trips = 16 := by decide +kernel

theorem t1_lt (t : Fin k0_t1_loop.trips) : t.val < 16 := trips1 ▸ t.isLt

/-! ## The offsets -/

theorem off2 (i : grid0.Coords) (t : Fin k0_t1_loop.trips) (r : Fin 4) :
    k0_off2 i t (BitVec.ofNat 32 r.val) = off i (4 * t.val + r.val) := by
  have := t1_lt t
  rw [k0_off2_eq]; exact off_eq i (by omega) (by omega)

theorem off4 : ∀ (i : grid0.Coords) (t : Fin k0_t1_loop.trips), k0_cond2 t = 1#1 → k0_off4 i t = off i (4 * t.val + 3 - 4) := by
  decide +kernel

theorem off5 (i : grid0.Coords) (t : Fin k0_t1_loop.trips) : k0_off5 i t = off i (4 * t.val + 3) := by
  have := t1_lt t
  rw [k0_off5_eq]; exact off_eq i (by omega) (by omega)

theorem off7 (i : grid0.Coords) (t : Fin k0_t1_loop.trips) : k0_off7 i t = off i (4 * t.val + 4 - 4) := by
  have := t1_lt t
  rw [k0_off7_eq]; exact off_eq i (by omega) (by omega)

theorem off8 (i : grid0.Coords) (t : Fin k0_t1_loop.trips) (h : 4 * t.val + 4 < 64) : k0_off8 i t = off i (4 * t.val + 4) := by
  rw [k0_off8_eq]; exact off_eq i h (by omega)

theorem off10 (i : grid0.Coords) (t : Fin k0_t1_loop.trips) : k0_off10 i t = off i (4 * t.val + 5 - 4) := by
  have := t1_lt t
  rw [k0_off10_eq]; exact off_eq i (by omega) (by omega)

theorem off11 (i : grid0.Coords) (t : Fin k0_t1_loop.trips) (h : 4 * t.val + 5 < 64) : k0_off11 i t = off i (4 * t.val + 5) := by
  rw [k0_off11_eq]; exact off_eq i h (by omega)

theorem off13 (i : grid0.Coords) (t : Fin k0_t1_loop.trips) : k0_off13 i t = off i (4 * t.val + 6 - 4) := by
  have := t1_lt t
  rw [k0_off13_eq]; exact off_eq i (by omega) (by omega)

theorem off14 (i : grid0.Coords) (t : Fin k0_t1_loop.trips) (h : 4 * t.val + 6 < 64) : k0_off14 i t = off i (4 * t.val + 6) := by
  rw [k0_off14_eq]; exact off_eq i h (by omega)

/-- The block each of the kernel's seven copies and waits outside the group loop names: the first three, and the last
    four. -/
def edge (r : Fin 7) : ℕ := if r.val < 3 then r.val else 57 + r.val

theorem off1 : ∀ (i : grid0.Coords) (r : Fin 7), k0_off1 i (k0_off1_at r) = off i (edge r) := by decide +kernel

/-! ## The ring's conditions -/

theorem cond1 : ∀ t : Fin k0_t1_loop.trips, k0_cond1 t = 1#1 ↔ 4 * t.val + 3 < 64 := by decide +kernel
theorem cond2 : ∀ t : Fin k0_t1_loop.trips, k0_cond2 t = 1#1 ↔ 4 ≤ 4 * t.val + 3 := by decide +kernel
theorem cond3 : ∀ t : Fin k0_t1_loop.trips, k0_cond3 t = 1#1 ↔ 4 * t.val + 4 < 64 := by decide +kernel
theorem cond4 : ∀ t : Fin k0_t1_loop.trips, k0_cond4 t = 1#1 ↔ 4 ≤ 4 * t.val + 4 := by decide +kernel
theorem cond5 : ∀ t : Fin k0_t1_loop.trips, k0_cond5 t = 1#1 ↔ 4 * t.val + 5 < 64 := by decide +kernel
theorem cond6 : ∀ t : Fin k0_t1_loop.trips, k0_cond6 t = 1#1 ↔ 4 ≤ 4 * t.val + 5 := by decide +kernel
theorem cond7 : ∀ t : Fin k0_t1_loop.trips, k0_cond7 t = 1#1 ↔ 4 * t.val + 6 < 64 := by decide +kernel
theorem cond8 : ∀ t : Fin k0_t1_loop.trips, k0_cond8 t = 1#1 ↔ 4 ≤ 4 * t.val + 6 := by decide +kernel

/-! ## The blocks cover the array -/

theorem parts_dvd : 2048 ∣ S33554432.size 0 := by decide

/-- The tile's block `n` is the cut of the array into 2048 parts at the block's number. -/
theorem rect_eq_part (i : grid0.Coords) (n : ℕ) :
    Rect.unit (s := S33554432) (off i n) S16384.size (off_inb i n) = Rect.part (s := S33554432) (a₀ := 0) parts_dvd ⟨blk i n, blk_lt i n⟩ := by
  unfold Rect.part Rect.block
  congr 1
  all_goals
    funext a
    fin_cases a
    first
      | (show 16384 * blk i n = blk i n * (33554432 / 2048); omega)
      | rfl

end Cert.Proof.PosAdd
-- ==== Proof.AddLoop.lean ====
/-
  The launch's set-up (the program as the launch theorem sees it, the resource algebra), a tile's buffers, and the
  kernel's inner loop: 1024 trips, each adding 16 elements of the table to 16 elements of a buffer in place. The loop
  is stated once, over any buffer; the kernel has it four times, one for each buffer of the ring.
-/
module

public import proofs.«01_k».proof.Proof.Blocks
public import Idealize.ShloMosaic.Lib.SparseCore.Quiescent
public import Idealize.ShloMosaic.Lib.StableHlo.Run
public import Idealize.ShloMosaic.Lib.Pipeline.Kit
public import Idealize.ShloMosaic.Lib.Pipeline.Value
public import Idealize.ShloMosaic.Lib.Tactic

@[expose] public section

noncomputable section

namespace Cert.Proof.PosAdd

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

variable [FloatOps F]

/-! ## A tile's buffers -/

/-- The thread of the tile at coordinates `i`. -/
abbrev thr (d : Dev nD) (i : grid0.Coords) : Thread nD τ := V d ((i 0).castLE hcore0) ((i 1).castLE hsub0)

/-- A buffer of one block in a tile's memory. -/
abbrev BufRef : Type := Memref sig .scVector .vmem S16384 .f32

section Tile

variable (d : Dev nD) (i : grid0.Coords)

/-- The tile's buffer `b` holds, at each of its indices, `g`. -/
def holds (b : BufRef) (g : Vec F S16384 .f32) : sProp 𝕄 :=
  iprop(∃ f, ⌜b.view.read (Elt F) f = g⌝ ∗ (b.view.loc (thr d i) ↦[b.view.set]{fullShare} f))

/-- The block `x` with its first `p` elements increased by the table `t`'s. -/
def added (x t : Vec F S16384 .f32) (p : ℕ) : Vec F S16384 .f32 := fun y => if (y 0).val < p then FloatOps.addf (x y) (t y) else x y

theorem added_zero (x t : Vec F S16384 .f32) : added x t 0 = x := by
  funext y; simp [added]

theorem added_all (x t : Vec F S16384 .f32) {p : ℕ} (hp : 16384 ≤ p) : added x t p = addf x t := by
  funext y
  have h : (y 0).val < 16384 := (y 0).isLt
  simp only [added, addf]
  rw [if_pos (by omega)]

/-- One trip of an inner loop over the buffer `b` and the table's buffer `t`: 16 elements at offset `o k`. -/
def addBody (b t : BufRef) {n : ℕ} (o : Fin n → Fin 1 → ℕ) (inb : ∀ k a, o k a + S16.size a ≤ S16384.size a)
    (pay : Vec F S16 .f32 → Vec F S16 .f32 → FVec F S16 .f32) : Fin n → Unit → Prog (TpuEff nD τ sig (Elt F) Λ₀ (thr d i).2) Unit :=
  fun k _ => do
    let u : Vec F S16 .f32 ← Prog.lift (.load b (Rect.unit (s := S16384) (o k) S16.size (inb k)).toLoadRect (View.loadsAt_vmem h_S16))
    let v : Vec F S16 .f32 ← Prog.lift (.load t (Rect.unit (s := S16384) (o k) S16.size (inb k)).toLoadRect (View.loadsAt_vmem h_S16))
    let _w : Vec F S16 .f32 ← Prog.lift (.load b (Rect.unit (s := S16384) (o k) S16.size (inb k)).toLoadRect (View.loadsAt_vmem h_S16))
    Prog.lift (.store b (Rect.unit (s := S16384) (o k) S16.size (inb k)) (pay u v) Finset.univ (View.stores_vmem_bits_univ h_S16 rfl) (.inl rfl))
    pure ⟨⟩

/-- What one trip leaves in the buffer, for any rectangle `r` of the 16 elements from `16 · p` on: with the first
    `16 · p` elements increased by the table's before, the first `16 · (p + 1)` are after. -/
theorem write_added (b t : BufRef) (x g : Vec F S16384 .f32) {p : ℕ} (r : Rect S16384)
    (hset : ∀ y, y ∈ r.set ↔ 16 * p ≤ (y 0).val ∧ (y 0).val < 16 * p + 16)
    {f : b.view.ty.Contents (Elt F)} (hf : b.view.read (Elt F) f = added x g (16 * p))
    {ft : t.view.ty.Contents (Elt F)} (ht : t.view.read (Elt F) ft = g)
    (w : r.shape.Idx → Elt F .f32)
    (hw : ∀ z, w z = FloatOps.addf (b.view.readAt (Elt F) r.toLoadRect f z : F .f32) (t.view.readAt (Elt F) r.toLoadRect ft z : F .f32)) :
    b.view.read (Elt F) ((b.access r).write (Elt F) f w Finset.univ) = added x g (16 * (p + 1)) := by
  funext y
  by_cases hy : y ∈ r.set
  · obtain ⟨h1, h2⟩ := (hset y).mp hy
    obtain ⟨z, -, rfl⟩ := Finset.mem_map.mp ((Rect.map_emb_univ r).symm ▸ hy)
    refine (View.read_slice_write_emb (v := b.view) r f w (Finset.mem_univ z)).trans ?_
    have hz : r.idx z = r.emb z := rfl
    rw [hw]
    simp only [View.readAt_apply]
    rw [hf, ht, hz]
    generalize r.emb z = y at h1 h2
    simp only [added]
    rw [if_neg (show ¬ (y 0).val < 16 * p by omega), if_pos (show (y 0).val < 16 * (p + 1) by omega)]
  · refine (View.read_slice_write_of_not_mem (v := b.view) r f w Finset.univ (y := y) (by rw [Rect.map_emb_univ]; exact hy)).trans ?_
    have hn : ¬ (16 * p ≤ (y 0).val ∧ (y 0).val < 16 * p + 16) := fun h => hy ((hset y).mpr h)
    rw [hf]
    simp only [added]
    by_cases hlt : (y 0).val < 16 * p
    · rw [if_pos hlt, if_pos (by omega)]
    · rw [if_neg hlt, if_neg (by omega)]

/-- The 16 elements from `16 · p` on, as a rectangle's members. -/
theorem mem_lanes {o : Fin 1 → ℕ} {p : ℕ} (ho : o = ![16 * p]) (inb : ∀ a, o a + S16.size a ≤ S16384.size a) (y : S16384.Idx) :
    y ∈ (Rect.unit (s := S16384) o S16.size inb).set ↔ 16 * p ≤ (y 0).val ∧ (y 0).val < 16 * p + 16 := by
  subst ho
  refine Rect.mem_set_unit.trans ⟨fun h => h 0, fun h a => ?_⟩
  fin_cases a; exact h

/-- One trip of an inner loop: from the first `16 · k` elements increased to the first `16 · (k + 1)`. -/
theorem addBody_spec (b t : BufRef) {n : ℕ} (o : Fin n → Fin 1 → ℕ) (inb : ∀ k a, o k a + S16.size a ≤ S16384.size a)
    (pay : Vec F S16 .f32 → Vec F S16 .f32 → FVec F S16 .f32) (ho : ∀ k, o k = ![16 * k.val]) (hpay : ∀ u v, pay u v = addf u v)
    (x g : Vec F S16384 .f32) (k : Fin n) :
    iprop(holds d i b (added x g (16 * k.val)) ∗ holds d i t g)
      ⊢ wp frame (wpE (defs₀ (F := F)) 𝒱₀ (thr d i) none) Set.univ (addBody d i b t o inb pay k ⟨⟩)
          fun _ => iprop(holds d i b (added x g (16 * (k.val + 1))) ∗ holds d i t g) := by
  unfold addBody holds
  iintro ⟨⟨%f, %hf, Hb⟩, %ft, %ht, Ht⟩
  sl_exec
  sl_step
  isplitl [Hb]
  · iexists _; isplitr
    · ipureintro
      exact write_added b t x g _ (mem_lanes (ho k) (inb k)) hf ht _ (fun z => congrFun (hpay _ _) z)
    · iexact Hb
  · iexists _; isplitr
    · ipureintro; exact ht
    · iexact Ht

end Tile

end Cert.Proof.PosAdd
-- ==== Proof.Ring.lean ====
/-
  The ring of four buffers. A slot is a buffer with its two semaphores and its share of `x`; this module names the
  states a slot goes through (free; filling with block `n`; full; emptying as result block `n`), and proves the steps
  between them, each once for any slot: start filling, wait until full, add the table, start emptying, wait until free,
  and the refill (wait until free if the slot is emptying, then start filling, unless no block is left).
-/
module

public import proofs.«01_k».proof.Proof.AddLoop

@[expose] public section

noncomputable section

namespace Cert.Proof.PosAdd

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable [FloatOps F]

-- the three arrays in HBM as a tile addresses them
local notation "xW" => (Memref.whole Cert.KernelIdeal.main_v0_scv : Memref Cert.KernelIdeal.sig Kind.scVector Space.hbm Cert.KernelIdeal.S33554432 EltTy.f32)
local notation "tW" => (Memref.whole Cert.KernelIdeal.main_v1_scv : Memref Cert.KernelIdeal.sig Kind.scVector Space.hbm Cert.KernelIdeal.S16384 EltTy.f32)
local notation "oW" => (Memref.whole Cert.KernelIdeal.main_v2_scv : Memref Cert.KernelIdeal.sig Kind.scVector Space.hbm Cert.KernelIdeal.S33554432 EltTy.f32)

/-- The element of the table that goes with element `p` of the flat array. -/
def tabIx (p : S33554432.Idx) : S16384.Idx := fun a => match a with
  | 0 => ⟨(p 0).val % 16384, Nat.mod_lt _ (by decide)⟩
  | ⟨_ + 1, h⟩ => absurd h (Nat.not_lt.2 (Nat.le_add_left _ _))

/-- The flat result: the table's elements added to every block of `X`. -/
def res (X : Vec F S33554432 .f32) (tb : Vec F S16384 .f32) : Vec F S33554432 .f32 := fun p => FloatOps.addf (X p) (tb (tabIx p))

section Slots

variable (d : Dev nD) (i : grid0.Coords) (O : CellTallies nD τ sig (HIx 1)) (W : Waits sig (HIx 1))
variable (X : Vec F S33554432 .f32) (tb : Vec F S16384 .f32)

/-- Block `n` of `x`, and of the result, as the kernel slices them. -/
abbrev xs (n : ℕ) : Memref sig .scVector .hbm S16384 .f32 := (xW).slice (Rect.unit (s := S33554432) (off i n) S16384.size (off_inb i n)) (fun _ => rfl)
abbrev os (n : ℕ) : Memref sig .scVector .hbm S16384 .f32 := (oW).slice (Rect.unit (s := S33554432) (off i n) S16384.size (off_inb i n)) (fun _ => rfl)

/-- The values of the tile's block `n` of `x`. -/
def xblk (n : ℕ) : Vec F S16384 .f32 := (xs i n).view.read (Elt F) X

/-- All of `x`, at share `q`. -/
def xAll (q : PosShare TreeShare) : sProp 𝕄 := (xs i 0).view.loc (thr d i) ↦{q} X
/-- Block `n` of `x` at share `q`, and all of `x` but block `n`. -/
def xIn (q : PosShare TreeShare) (n : ℕ) : sProp 𝕄 := (xs i n).view.loc (thr d i) ↦[(xs i n).view.set]{q} X
def xOut (q : PosShare TreeShare) (n : ℕ) : sProp 𝕄 := (xs i n).view.loc (thr d i) ↦[Finset.univ \ (xs i n).view.set]{q} X

/-- All of `x` is its block `n` and the rest. -/
theorem xAll_split (q : PosShare TreeShare) (n : ℕ) : (xAll d i X q : sProp 𝕄) ⊣⊢ iprop(xIn d i X q n ∗ xOut d i X q n) :=
  pointsTo_split_subset (Finset.subset_univ _)

/-- Block `n` of the result, holding `f`'s values there. -/
def oBlk (n : ℕ) (f : Vec F S33554432 .f32) : sProp 𝕄 := (os i n).view.loc (thr d i) ↦[(os i n).view.set]{fullShare} f

/-- What the tile owes, and the evidence that it may wait on its own transfers. -/
def ow : sProp 𝕄 := iprop(Transfers.MayWaits (thr d i) (none : HIx 1) O ∗ ∃ W', ⌜∀ p ∈ W', p ∈ W ∨ p.2 = none⌝ ∗ owes (thr d i) O W')

/-- A slot with nothing under way, its buffer holding `g`. -/
def full (b : BufRef) (si so : DmaSem sig) (q : PosShare TreeShare) (g : Vec F S16384 .f32) : sProp 𝕄 :=
  iprop(holds d i b g ∗ xAll d i X q ∗ semVal (thr d i, SemLoc.dma si) 0 ∗ semVal (thr d i, SemLoc.dma so) 0)

/-- A slot with nothing under way. -/
def free (b : BufRef) (si so : DmaSem sig) (q : PosShare TreeShare) : sProp 𝕄 := iprop(∃ g, full d i X b si so q g)

/-- A slot whose buffer is being filled with block `n` of `x`. -/
def filling (b : BufRef) (si so : DmaSem sig) (q : PosShare TreeShare) (n : ℕ) : sProp 𝕄 :=
  iprop(Transfers.Flight countersEmb (thr d i) (SemLoc.dma si) (none : HIx 1) b.view.dmaCredit
      iprop(holds d i b (xblk i X n) ∗ xIn d i X q n)
    ∗ xOut d i X q n ∗ semVal (thr d i, SemLoc.dma so) 0)

/-- A slot whose buffer is being written out as block `n` of the result. -/
def emptying (b : BufRef) (si so : DmaSem sig) (q : PosShare TreeShare) (n : ℕ) : sProp 𝕄 :=
  iprop(Transfers.Flight countersEmb (thr d i) (SemLoc.dma so) (none : HIx 1) (os i n).view.dmaCredit
      iprop(oBlk d i n (res X tb) ∗ ∃ g, holds d i b g)
    ∗ xAll d i X q ∗ semVal (thr d i, SemLoc.dma si) 0)

/-- What a copy of block `n` into the buffer delivers. -/
theorem fill_delivers (b : BufRef) (q : PosShare TreeShare) (n : ℕ) (f : Buf (Elt F) (b.view.loc (thr d i))) :
    (iprop((b.view.loc (thr d i) ↦[b.view.set]{fullShare}
          (b.view.write (Elt F) f ((ReadAs.same : ReadAs (Elt F) S16384 .f32 S16384 .f32).apply ((xs i n).view.read (Elt F) X)) Finset.univ))
        ∗ ((xs i n).view.loc (thr d i) ↦[(xs i n).view.set]{q} X)) : sProp 𝕄)
      ⊢ iprop(holds d i b (xblk i X n) ∗ xIn d i X q n) := by
  iintro ⟨Hb, Hi⟩
  isplitl [Hb]
  · unfold holds
    iexists (b.view.write (Elt F) f (xblk i X n) Finset.univ); isplitr
    · ipureintro; exact View.read_write_univ _ _
    · iexact Hb
  · unfold xIn; iexact Hi

/-! ## The steps -/

/-- Starting to fill a free slot with block `n`. -/
theorem start_fill {α : Type} {Q : α → sProp 𝕄} (b : BufRef) (si so : DmaSem sig) (q : PosShare TreeShare) (n : ℕ) {o : Fin 1 → ℕ} (ho : o = off i n)
    (inb : ∀ a, o a + S16384.size a ≤ S33554432.size a) (hs hsrc hdst hsem) (k : PUnit → Prog (TpuEff nD τ sig (Elt F) Λ₀ (thr d i).2) α) :
    iprop(free d i X b si so q ∗ (filling d i X b si so q n -∗ wp frame (wpE (defs₀ (F := F)) 𝒱₀ (thr d i) none) Set.univ (k ⟨⟩) Q))
      ⊢ wp frame (wpE (defs₀ (F := F)) 𝒱₀ (thr d i) none) Set.univ
          (.op (.enqueueDma ((xW).slice (Rect.unit (s := S33554432) o S16384.size inb) hs) (.here b) (.dma si) hsrc hdst hsem) k) Q := by
  subst ho
  unfold free full
  iintro ⟨⟨%g, Hb, Hx, Hsi, Hso⟩, Hk⟩
  unfold holds
  icases Hb with ⟨%f, %hf, Hb⟩
  ihave Hx := (xAll_split d i X q n).1 $$ Hx
  icases Hx with ⟨Hi, Ho⟩
  unfold xIn
  iapply (Transfers.wp_dmaLocal countersEmb 𝒱₀ (thr d i) none (src := xs i n) (dst := b) (sm := .dma si) (none : HIx 1) b.view.dmaCredit rfl
    (View.dmaCredit_pos _ (show 0 < S16384.numel by decide)) (Finset.Subset.refl _)) $$ [Hi Hb Hsi]
  · isplitl [Hi]; · iexact Hi
    isplitl [Hb]; · iexact Hb
    iexact Hsi
  iintro HF
  iapply Hk
  unfold filling
  isplitl [HF]
  · iapply (Transfers.Flight_mono countersEmb (thr d i) (fill_delivers d i X b q n f)) $$ HF
  · isplitl [Ho]; · iexact Ho
    iexact Hso

/-- Waiting until a filling slot is full of block `n`. -/
theorem wait_fill {α : Type} {Q : α → sProp 𝕄} (b : BufRef) (si so : DmaSem sig) (q : PosShare TreeShare) (n : ℕ) {s' : Shape} {e' : EltTy} {sp' : Space}
    (src : Memref sig .scVector sp' s' e') (hsrc hdst) (k : PUnit → Prog (TpuEff nD τ sig (Elt F) Λ₀ (thr d i).2) α) :
    iprop(filling d i X b si so q n ∗ ow d i O W
        ∗ ((full d i X b si so q (xblk i X n) ∗ ow d i O W) -∗ wp frame (wpE (defs₀ (F := F)) 𝒱₀ (thr d i) none) Set.univ (k ⟨⟩) Q))
      ⊢ wp frame (wpE (defs₀ (F := F)) 𝒱₀ (thr d i) none) Set.univ (.op (.waitDma2 si src b hsrc hdst) k) Q := by
  unfold filling ow
  iintro ⟨⟨HF, Hxo, Hso⟩, ⟨#Hmw, %W', %hW', HO⟩, Hk⟩
  ihave Hm := (Transfers.MayWaits.elim (SemLoc.dma si)) $$ Hmw
  iapply (Transfers.wp_waitLocalO countersEmb 𝒱₀ (thr d i) none (none : HIx 1) (dstw := b) rfl) $$ [HF HO Hm]
  · isplitl [HF]; · iexact HF
    isplitl [HO]; · iexact HO
    iexact Hm
  iintro ⟨⟨Hb, Hxi⟩, Hsi, HO⟩
  iapply Hk
  isplitl [Hb Hxi Hxo Hsi Hso]
  · unfold full
    isplitl [Hb]; · iexact Hb
    isplitl [Hxi Hxo]
    · iapply (xAll_split d i X q n).2
      isplitl [Hxi]; · iexact Hxi
      iexact Hxo
    isplitl [Hsi]; · iexact Hsi
    iexact Hso
  isplitr; · iexact Hmw
  iexists (insert (SemLoc.dma si, (none : HIx 1)) W'); isplitr
  · ipureintro
    intro p hp
    rcases Finset.mem_insert.mp hp with hp | hp
    · exact .inr (hp ▸ rfl)
    · exact hW' p hp
  · iexact HO

/-- The inner loop on a full slot: the table's elements are added to the buffer's. -/
theorem add_table {α : Type} {Q : α → sProp 𝕄} (b t : BufRef) (si so : DmaSem sig) (q : PosShare TreeShare) (x g : Vec F S16384 .f32) (l : Scf.Loop 32) (hok : l.OK) (htr : l.trips = 1024)
    (o : Fin l.trips → Fin 1 → ℕ) (inb : ∀ k a, o k a + S16.size a ≤ S16384.size a) (pay : Vec F S16 .f32 → Vec F S16 .f32 → FVec F S16 .f32)
    (ho : ∀ k, o k = ![16 * k.val]) (hpay : ∀ u v, pay u v = addf u v) (k : Unit → Prog (TpuEff nD τ sig (Elt F) Λ₀ (thr d i).2) α) :
    iprop(full d i X b si so q x ∗ holds d i t g
        ∗ ((full d i X b si so q (addf x g) ∗ holds d i t g) -∗ wp frame (wpE (defs₀ (F := F)) 𝒱₀ (thr d i) none) Set.univ (k ⟨⟩) Q))
      ⊢ wp frame (wpE (defs₀ (F := F)) 𝒱₀ (thr d i) none) Set.univ (Scf.Loop.for l hok ⟨⟩ (addBody d i b t o inb pay) >>= k) Q := by
  unfold full
  iintro ⟨⟨Hb, Hx, Hsi, Hso⟩, Ht, Hk⟩
  iapply (Scf.wp_for_bind frame (wpE (defs₀ (F := F)) 𝒱₀ (thr d i) none) Set.univ l.lb l.ub l.st hok ⟨⟩ (addBody d i b t o inb pay)
    (fun j _ => iprop(holds d i b (added x g (16 * j)) ∗ holds d i t g)) (fun j _ => addBody_spec d i b t o inb pay ho hpay x g j)) $$ [Hb Ht]
  · isplitl [Hb]
    · rw [Nat.mul_zero, added_zero]; iexact Hb
    · iexact Ht
  iintro %_ ⟨Hb, Ht⟩
  have hall : added x g (16 * Scf.trips l.lb l.ub l.st) = addf x g := added_all x g (by
    rw [show Scf.trips l.lb l.ub l.st = 1024 from htr])
  rw [hall]
  iapply Hk
  isplitr [Ht]
  · isplitl [Hb]; · iexact Hb
    isplitl [Hx]; · iexact Hx
    isplitl [Hsi]; · iexact Hsi
    iexact Hso
  · iexact Ht

/-- Element `y` of a block goes with element `y` of the table. -/
theorem tabIx_emb (n : ℕ) (y : S16384.Idx) : tabIx ((Rect.unit (s := S33554432) (off i n) S16384.size (off_inb i n)).emb y) = y := by
  funext a
  match a with
  | 0 =>
    refine Fin.ext ?_
    show ((Rect.unit (s := S33554432) (off i n) S16384.size (off_inb i n)).emb y 0).val % 16384 = (y 0).val
    have h : (y 0).val < 16384 := (y 0).isLt
    have e : ((Rect.unit (s := S33554432) (off i n) S16384.size (off_inb i n)).emb y 0).val = 16384 * blk i n + 1 * (y 0).val :=
      Rect.emb_apply (Rect.unit (s := S33554432) (off i n) S16384.size (off_inb i n)) y 0
    rw [e]; omega

/-- The result's block `n`, read, is the table added to block `n` of `x`. -/
theorem res_blk (n : ℕ) : (os i n).view.read (Elt F) (res X tb) = (addf (xblk i X n) tb : Vec F S16384 .f32) := by
  funext y
  show FloatOps.addf (X ((Rect.unit (s := S33554432) (off i n) S16384.size (off_inb i n)).emb y))
    (tb (tabIx ((Rect.unit (s := S33554432) (off i n) S16384.size (off_inb i n)).emb y))) = FloatOps.addf (xblk i X n y) (tb y)
  rw [tabIx_emb]; rfl

/-- What a copy of the buffer into block `n` of the result delivers. -/
theorem empty_delivers (b : BufRef) (n : ℕ) (f : Vec F S33554432 .f32) (w : Buf (Elt F) (b.view.loc (thr d i)))
    (hw : b.view.read (Elt F) w = (addf (xblk i X n) tb : Vec F S16384 .f32)) :
    (iprop(((os i n).view.loc (thr d i) ↦[(os i n).view.set]{fullShare}
          ((os i n).view.write (Elt F) f ((ReadAs.same : ReadAs (Elt F) S16384 .f32 S16384 .f32).apply (b.view.read (Elt F) w)) Finset.univ))
        ∗ (b.view.loc (thr d i) ↦[b.view.set]{fullShare} w)) : sProp 𝕄)
      ⊢ iprop(oBlk d i n (res X tb) ∗ ∃ g, holds d i b g) := by
  iintro ⟨Ho, Hb⟩
  isplitl [Ho]
  · unfold oBlk
    iapply (Entails.of_eq (pointsTo_congr fun p hp => ?_)) $$ Ho
    obtain ⟨y, -, rfl⟩ := Finset.mem_map.mp hp
    refine (View.write_emb_of_mem (v := (os i n).view) _ _ (Finset.mem_univ y)).trans ?_
    exact (congrFun hw y).trans (congrFun (res_blk i X tb n) y).symm
  · iexists _
    unfold holds
    iexists w; isplitr
    · ipureintro; rfl
    · iexact Hb

/-- Starting to write a slot's buffer out as block `n` of the result. -/
theorem start_empty {α : Type} {Q : α → sProp 𝕄} (b : BufRef) (si so : DmaSem sig) (q : PosShare TreeShare) (n : ℕ) {o : Fin 1 → ℕ} (ho : o = off i n)
    (inb : ∀ a, o a + S16384.size a ≤ S33554432.size a) (hs hsrc hdst hsem) (f : Vec F S33554432 .f32)
    (k : PUnit → Prog (TpuEff nD τ sig (Elt F) Λ₀ (thr d i).2) α) :
    iprop(full d i X b si so q (addf (xblk i X n) tb) ∗ oBlk d i n f
        ∗ (emptying d i X tb b si so q n -∗ wp frame (wpE (defs₀ (F := F)) 𝒱₀ (thr d i) none) Set.univ (k ⟨⟩) Q))
      ⊢ wp frame (wpE (defs₀ (F := F)) 𝒱₀ (thr d i) none) Set.univ
          (.op (.enqueueDma b (.here ((oW).slice (Rect.unit (s := S33554432) o S16384.size inb) hs)) (.dma so) hsrc hdst hsem) k) Q := by
  subst ho
  unfold full
  iintro ⟨⟨Hb, Hx, Hsi, Hso⟩, Ho, Hk⟩
  unfold holds
  icases Hb with ⟨%w, %hw, Hb⟩
  unfold oBlk
  iapply (Transfers.wp_dmaLocal countersEmb 𝒱₀ (thr d i) none (src := b) (dst := os i n) (sm := .dma so) (none : HIx 1) (os i n).view.dmaCredit rfl
    (View.dmaCredit_pos _ (show 0 < S16384.numel by decide)) (Finset.Subset.refl _)) $$ [Ho Hb Hso]
  · isplitl [Hb]; · iexact Hb
    isplitl [Ho]; · iexact Ho
    iexact Hso
  iintro HF
  iapply Hk
  unfold emptying
  isplitl [HF]
  · iapply (Transfers.Flight_mono countersEmb (thr d i) (empty_delivers d i X tb b n f w hw)) $$ HF
  · isplitl [Hx]; · iexact Hx
    iexact Hsi

/-- Waiting until an emptying slot is free: block `n` of the result is written. -/
theorem wait_empty {α : Type} {Q : α → sProp 𝕄} (b : BufRef) (si so : DmaSem sig) (q : PosShare TreeShare) (n : ℕ) {o : Fin 1 → ℕ} (ho : o = off i n)
    (inb : ∀ a, o a + S16384.size a ≤ S33554432.size a) (hs) {s' : Shape} {e' : EltTy} {sp' : Space}
    (src : Memref sig .scVector sp' s' e') (hsrc hdst) (k : PUnit → Prog (TpuEff nD τ sig (Elt F) Λ₀ (thr d i).2) α) :
    iprop(emptying d i X tb b si so q n ∗ ow d i O W
        ∗ ((free d i X b si so q ∗ oBlk d i n (res X tb) ∗ ow d i O W) -∗ wp frame (wpE (defs₀ (F := F)) 𝒱₀ (thr d i) none) Set.univ (k ⟨⟩) Q))
      ⊢ wp frame (wpE (defs₀ (F := F)) 𝒱₀ (thr d i) none) Set.univ
          (.op (.waitDma2 so src ((oW).slice (Rect.unit (s := S33554432) o S16384.size inb) hs) hsrc hdst) k) Q := by
  subst ho
  unfold emptying ow
  iintro ⟨⟨HF, Hx, Hsi⟩, ⟨#Hmw, %W', %hW', HO⟩, Hk⟩
  ihave Hm := (Transfers.MayWaits.elim (SemLoc.dma so)) $$ Hmw
  iapply (Transfers.wp_waitLocalO countersEmb 𝒱₀ (thr d i) none (none : HIx 1) (dstw := os i n) rfl) $$ [HF HO Hm]
  · isplitl [HF]; · iexact HF
    isplitl [HO]; · iexact HO
    iexact Hm
  iintro ⟨⟨Ho, %g, Hb⟩, Hso, HO⟩
  iapply Hk
  isplitl [Hb Hx Hsi Hso]
  · unfold free full
    iexists g
    isplitl [Hb]; · iexact Hb
    isplitl [Hx]; · iexact Hx
    isplitl [Hsi]; · iexact Hsi
    iexact Hso
  isplitl [Ho]; · iexact Ho
  isplitr; · iexact Hmw
  iexists (insert (SemLoc.dma so, (none : HIx 1)) W'); isplitr
  · ipureintro
    intro p hp
    rcases Finset.mem_insert.mp hp with hp | hp
    · exact .inr (hp ▸ rfl)
    · exact hW' p hp
  · iexact HO

/-! ## The blocks of the result, and the refill -/

/-- The blocks from `n` on, not yet written. -/
def todo (f : Vec F S33554432 .f32) (n : ℕ) : sProp 𝕄 := bigSep (Finset.Ico n 64) fun j => oBlk d i j f
/-- The blocks below `n`, written. -/
def done (n : ℕ) : sProp 𝕄 := bigSep (Finset.range n) fun j => oBlk d i j (res X tb)

theorem todo_take (f : Vec F S33554432 .f32) {n : ℕ} (hn : n < 64) : (todo d i f n : sProp 𝕄) = iprop(oBlk d i n f ∗ todo d i f (n + 1)) := by
  have e : Finset.Ico n 64 = insert n (Finset.Ico (n + 1) 64) := by
    ext j; simp only [Finset.mem_Ico, Finset.mem_insert]; omega
  unfold todo
  rw [e, SparseCore.bigSep_insert' (by simp)]

theorem done_put (n : ℕ) : (done d i X tb (n + 1) : sProp 𝕄) = iprop(oBlk d i n (res X tb) ∗ done d i X tb n) := by
  unfold done
  rw [Finset.range_add_one, SparseCore.bigSep_insert' (by simp)]

/-- The slot of block `n` at that block's turn: being filled with it; past the last block, still emptying. -/
def ready (b : BufRef) (si so : DmaSem sig) (q : PosShare TreeShare) (n : ℕ) : sProp 𝕄 :=
  if n < 64 then filling d i X b si so q n else emptying d i X tb b si so q (n - 4)

/-- The slot of block `n` before the refill: emptying as the block four before it; free, for the first four. -/
def spent (b : BufRef) (si so : DmaSem sig) (q : PosShare TreeShare) (n : ℕ) : sProp 𝕄 :=
  if n < 4 then free d i X b si so q else emptying d i X tb b si so q (n - 4)

theorem ready_lt (b : BufRef) (si so : DmaSem sig) (q : PosShare TreeShare) {n : ℕ} (hn : n < 64) :
    ready d i X tb b si so q n = filling d i X b si so q n := if_pos hn

theorem ready_end (b : BufRef) (si so : DmaSem sig) (q : PosShare TreeShare) {n : ℕ} (hn : ¬ n < 64) :
    ready d i X tb b si so q n = emptying d i X tb b si so q (n - 4) := if_neg hn

theorem spent_lt (b : BufRef) (si so : DmaSem sig) (q : PosShare TreeShare) {n : ℕ} (hn : n < 4) :
    spent d i X tb b si so q n = free d i X b si so q := if_pos hn

theorem spent_ge (b : BufRef) (si so : DmaSem sig) (q : PosShare TreeShare) {n : ℕ} (hn : ¬ n < 4) :
    spent d i X tb b si so q n = emptying d i X tb b si so q (n - 4) := if_neg hn

/-- The slot emptying as block `m` is, before the refill, the slot of block `m + 4`. -/
theorem spent_of (b : BufRef) (si so : DmaSem sig) (q : PosShare TreeShare) {m n : ℕ} (h : n = m + 4) :
    (emptying d i X tb b si so q m : sProp 𝕄) ⊢ spent d i X tb b si so q n := by
  subst h
  rw [spent_ge d i X tb b si so q (by omega), Nat.add_sub_cancel]

theorem done_of {m n : ℕ} (h : m = n) : (done d i X tb m : sProp 𝕄) ⊢ done d i X tb n := by subst h; exact .rfl
theorem todo_of (f : Vec F S33554432 .f32) {m n : ℕ} (h : m = n) : (todo d i f m : sProp 𝕄) ⊢ todo d i f n := by subst h; exact .rfl
theorem ready_of (b : BufRef) (si so : DmaSem sig) (q : PosShare TreeShare) {m n : ℕ} (h : m = n) :
    (ready d i X tb b si so q m : sProp 𝕄) ⊢ ready d i X tb b si so q n := by subst h; exact .rfl

/-- The refill of block `n`'s slot. If block `n` exists, the kernel waits for the slot's last block to be written out
    (unless it has none) and starts filling the slot; else it does nothing. -/
theorem refill {α : Type} {Q : α → sProp 𝕄} (b : BufRef) (si so : DmaSem sig) (q : PosShare TreeShare) (n : ℕ) {m m' : ℕ} (hm : m = min (n - 4) 60) (hm' : m' = min (n - 3) 60) {c₁ c₂ : BitVec 1}
    (h₁ : c₁ = 1#1 ↔ n < 64) (h₂ : c₂ = 1#1 ↔ 4 ≤ n) {oo oi : Fin 1 → ℕ}
    (hoo : c₂ = 1#1 → oo = off i (n - 4)) (hoi : n < 64 → oi = off i n)
    (inbo : c₁ = 1#1 → c₂ = 1#1 → ∀ a, oo a + S16384.size a ≤ S33554432.size a) (inbi : c₁ = 1#1 → ∀ a, oi a + S16384.size a ≤ S33554432.size a)
    (hb : b.IsWhole) (k : Prog (TpuEff nD τ sig (Elt F) Λ₀ (thr d i).2) α) :
    iprop(spent d i X tb b si so q n ∗ done d i X tb m ∗ ow d i O W
        ∗ ((ready d i X tb b si so q n ∗ done d i X tb m' ∗ ow d i O W)
          -∗ wp frame (wpE (defs₀ (F := F)) 𝒱₀ (thr d i) none) Set.univ k Q))
      ⊢ wp frame (wpE (defs₀ (F := F)) 𝒱₀ (thr d i) none) Set.univ
          (if h : c₁ = 1#1 then
            (if h' : c₂ = 1#1 then
              .op (.waitDma2 so b ((oW).slice (Rect.unit (s := S33554432) oo S16384.size (inbo h h')) (fun _ => rfl)) hb.wordExact (View.wordExact_bits rfl)) fun _ =>
              .op (.enqueueDma ((xW).slice (Rect.unit (s := S33554432) oi S16384.size (inbi h)) (fun _ => rfl)) (.here b) (.dma si) (View.wordExact_bits rfl) hb.wordExact ⟨Or.inl rfl, trivial⟩) fun _ => k
            else
              .op (.enqueueDma ((xW).slice (Rect.unit (s := S33554432) oi S16384.size (inbi h)) (fun _ => rfl)) (.here b) (.dma si) (View.wordExact_bits rfl) hb.wordExact ⟨Or.inl rfl, trivial⟩) fun _ => k)
          else k) Q := by
  subst hm hm'
  by_cases h : c₁ = 1#1
  · have hn := h₁.mp h
    rw [dif_pos h, ready_lt d i X tb b si so q hn]
    by_cases h' : c₂ = 1#1
    · have hn' := h₂.mp h'
      rw [dif_pos h', spent_ge d i X tb b si so q (by omega), show min (n - 3) 60 = n - 4 + 1 by omega, show min (n - 4) 60 = n - 4 by omega, done_put]
      iintro ⟨He, Hd, Hw, Hk⟩
      iapply (wait_empty d i O W X tb b si so q (n - 4) (hoo h') (inbo h h') (fun _ => rfl) b hb.wordExact (View.wordExact_bits rfl) _)
      isplitl [He]; · iexact He
      isplitl [Hw]; · iexact Hw
      iintro ⟨Hf, Ho, Hw⟩
      iapply (start_fill d i X b si so q n (hoi hn) (inbi h) (fun _ => rfl) (View.wordExact_bits rfl) hb.wordExact ⟨Or.inl rfl, trivial⟩ _)
      isplitl [Hf]; · iexact Hf
      iintro Hf
      iapply Hk
      isplitl [Hf]; · iexact Hf
      isplitl [Ho Hd]
      · isplitl [Ho]; · iexact Ho
        iexact Hd
      iexact Hw
    · have hn' : n < 4 := by by_contra hc; exact h' (h₂.mpr (by omega))
      rw [dif_neg h', spent_lt d i X tb b si so q hn', show min (n - 3) 60 = min (n - 4) 60 by omega]
      iintro ⟨Hf, Hd, Hw, Hk⟩
      iapply (start_fill d i X b si so q n (hoi hn) (inbi h) (fun _ => rfl) (View.wordExact_bits rfl) hb.wordExact ⟨Or.inl rfl, trivial⟩ _)
      isplitl [Hf]; · iexact Hf
      iintro Hf
      iapply Hk
      isplitl [Hf]; · iexact Hf
      isplitl [Hd]; · iexact Hd
      iexact Hw
  · have hn : ¬ n < 64 := fun hc => h (h₁.mpr hc)
    rw [dif_neg h, ready_end d i X tb b si so q hn, spent_ge d i X tb b si so q (by omega), show min (n - 3) 60 = min (n - 4) 60 by omega]
    iintro ⟨He, Hd, Hw, Hk⟩
    iapply Hk
    isplitl [He]; · iexact He
    isplitl [Hd]; · iexact Hd
    iexact Hw

end Slots

end Cert.Proof.PosAdd
-- ==== Proof.Group.lean ====
/-
  One trip of the group loop: four blocks, one in each slot of the ring. The kernel's text is in three parts; each part
  is run here by the ring's steps.
-/
module

public import proofs.«01_k».proof.Proof.Ring

@[expose] public section

set_option maxHeartbeats 1000000

noncomputable section

namespace Cert.Proof.PosAdd

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable [FloatOps F]

-- the three arrays in HBM as a tile addresses them, the table's buffer, and the ring's four buffers and their semaphores
local notation "xW" => (Memref.whole Cert.KernelIdeal.main_v0_scv : Memref Cert.KernelIdeal.sig Kind.scVector Space.hbm Cert.KernelIdeal.S33554432 EltTy.f32)
local notation "tW" => (Memref.whole Cert.KernelIdeal.main_v1_scv : Memref Cert.KernelIdeal.sig Kind.scVector Space.hbm Cert.KernelIdeal.S16384 EltTy.f32)
local notation "oW" => (Memref.whole Cert.KernelIdeal.main_v2_scv : Memref Cert.KernelIdeal.sig Kind.scVector Space.hbm Cert.KernelIdeal.S33554432 EltTy.f32)
local notation "bT" => (Memref.whole Cert.KernelIdeal.cc0_scratch0 : Memref Cert.KernelIdeal.sig Kind.scVector Space.vmem Cert.KernelIdeal.S16384 EltTy.f32)
local notation "b0" => (Memref.whole Cert.KernelIdeal.cc0_scratch1 : Memref Cert.KernelIdeal.sig Kind.scVector Space.vmem Cert.KernelIdeal.S16384 EltTy.f32)
local notation "b1" => (Memref.whole Cert.KernelIdeal.cc0_scratch2 : Memref Cert.KernelIdeal.sig Kind.scVector Space.vmem Cert.KernelIdeal.S16384 EltTy.f32)
local notation "b2" => (Memref.whole Cert.KernelIdeal.cc0_scratch3 : Memref Cert.KernelIdeal.sig Kind.scVector Space.vmem Cert.KernelIdeal.S16384 EltTy.f32)
local notation "b3" => (Memref.whole Cert.KernelIdeal.cc0_scratch4 : Memref Cert.KernelIdeal.sig Kind.scVector Space.vmem Cert.KernelIdeal.S16384 EltTy.f32)

abbrev in0 : DmaSem sig := ((cc0_scratch5.slice (Rect.unit (s := S4) ![0] S1.size inb_S4_S1_0)).squeeze S_ squeezes_S1_S_).sem
abbrev in1 : DmaSem sig := ((cc0_scratch5.slice (Rect.unit (s := S4) ![1] S1.size inb_S4_S1_1)).squeeze S_ squeezes_S1_S_).sem
abbrev in2 : DmaSem sig := ((cc0_scratch5.slice (Rect.unit (s := S4) ![2] S1.size inb_S4_S1_2)).squeeze S_ squeezes_S1_S_).sem
abbrev in3 : DmaSem sig := ((cc0_scratch5.slice (Rect.unit (s := S4) ![3] S1.size inb_S4_S1_3)).squeeze S_ squeezes_S1_S_).sem
abbrev out0 : DmaSem sig := ((cc0_scratch6.slice (Rect.unit (s := S4) ![0] S1.size inb_S4_S1_0)).squeeze S_ squeezes_S1_S_).sem
abbrev out1 : DmaSem sig := ((cc0_scratch6.slice (Rect.unit (s := S4) ![1] S1.size inb_S4_S1_1)).squeeze S_ squeezes_S1_S_).sem
abbrev out2 : DmaSem sig := ((cc0_scratch6.slice (Rect.unit (s := S4) ![2] S1.size inb_S4_S1_2)).squeeze S_ squeezes_S1_S_).sem
abbrev out3 : DmaSem sig := ((cc0_scratch6.slice (Rect.unit (s := S4) ![3] S1.size inb_S4_S1_3)).squeeze S_ squeezes_S1_S_).sem

theorem pay_eq (u v : Vec F S16 .f32) : k0_pay1 u v = addf u v := by
  unfold k0_pay1
  simp only [shapeCast_self]

section Group

variable (d : Dev nD) (i : grid0.Coords) (O : CellTallies nD τ sig (HIx 1)) (W : Waits sig (HIx 1))
variable (X : Vec F S33554432 .f32) (tb : Vec F S16384 .f32) (f : Vec F S33554432 .f32)
variable (q0 q1 q2 q3 : PosShare TreeShare)

/-- The first part of trip `t`: slot 0's block from full to emptying, slot 3's refill, slot 1's block until added. -/
theorem part1_spec (v2 : BitVec 32) (t : Fin k0_t1_loop.trips) :
    iprop(ready d i X tb b0 in0 out0 q0 (4 * t.val) ∗ ready d i X tb b1 in1 out1 q1 (4 * t.val + 1) ∗ spent d i X tb b3 in3 out3 q3 (4 * t.val + 3)
        ∗ holds d i bT tb ∗ todo d i f (4 * t.val) ∗ done d i X tb (min (4 * t.val - 1) 60) ∗ ow d i O W)
      ⊢ wp frame (wpE (defs₀ (F := F)) 𝒱₀ (thr d i) none) Set.univ
          (k0_part1 i xW (Memref.isWhole_whole _) tW (Memref.isWhole_whole _) oW (Memref.isWhole_whole _) bT (Memref.isWhole_whole _)
            b0 (Memref.isWhole_whole _) b1 (Memref.isWhole_whole _) b2 (Memref.isWhole_whole _) b3 (Memref.isWhole_whole _)
            cc0_scratch5 cc0_scratch6 cc0_scoped0 v2 0#32 1#32 t)
          fun _ => iprop(emptying d i X tb b0 in0 out0 q0 (4 * t.val) ∗ full d i X b1 in1 out1 q1 (addf (xblk i X (4 * t.val + 1)) tb)
            ∗ ready d i X tb b3 in3 out3 q3 (4 * t.val + 3)
            ∗ holds d i bT tb ∗ todo d i f (4 * t.val + 1) ∗ done d i X tb (min (4 * t.val) 60) ∗ ow d i O W) := by
  have ht := t1_lt t
  rw [ready_lt d i X tb b0 in0 out0 q0 (by omega), ready_lt d i X tb b1 in1 out1 q1 (by omega), todo_take d i f (n := 4 * t.val) (by omega)]
  simp only [k0_part1_eq_skeleton]; unfold k0_part1_skel
  iintro ⟨H0, H1, H3, Ht, ⟨Ho, Htd⟩, Hd, Hw⟩
  simp only [Prog.lift, Prog.bind_op, Prog.bind_ret, Prog.pure_eq_ret]
  iapply (wait_fill d i O W X b0 in0 out0 q0 (4 * t.val))
  isplitl [H0]; · iexact H0
  isplitl [Hw]; · iexact Hw
  iintro ⟨H0, Hw⟩
  iapply (add_table d i X b0 bT in0 out0 q0 _ tb k0_t2_loop k0_t2_ok (by decide +kernel) k0_off3 k0_off3_inb k0_pay1 k0_off3_eq pay_eq)
  isplitl [H0]; · iexact H0
  isplitl [Ht]; · iexact Ht
  iintro ⟨H0, Ht⟩
  iapply (start_empty d i X tb b0 in0 out0 q0 (4 * t.val) (off2 i t 0) (k0_off2_inb i t 0) (fun _ => rfl) (Memref.isWhole_whole _).wordExact (View.wordExact_bits rfl) ⟨Or.inl rfl, trivial⟩ f)
  isplitl [H0]; · iexact H0
  isplitl [Ho]; · iexact Ho
  iintro H0
  iapply (refill d i O W X tb b3 in3 out3 q3 (4 * t.val + 3) (m := min (4 * t.val - 1) 60) (m' := min (4 * t.val) 60) (by omega) (by omega) (cond1 t) (cond2 t) (off4 i t) (fun _ => off5 i t) (k0_off4_inb i t) (k0_off5_inb i t) (Memref.isWhole_whole _))
  isplitl [H3]; · iexact H3
  isplitl [Hd]; · iexact Hd
  isplitl [Hw]; · iexact Hw
  iintro ⟨H3, Hd, Hw⟩
  iapply (wait_fill d i O W X b1 in1 out1 q1 (4 * t.val + 1))
  isplitl [H1]; · iexact H1
  isplitl [Hw]; · iexact Hw
  iintro ⟨H1, Hw⟩
  iapply (add_table d i X b1 bT in1 out1 q1 _ tb k0_t3_loop k0_t3_ok (by decide +kernel) k0_off6 k0_off6_inb k0_pay2 k0_off6_eq pay_eq)
  isplitl [H1]; · iexact H1
  isplitl [Ht]; · iexact Ht
  iintro ⟨H1, Ht⟩
  sl_step
  isplitl [H0]; · iexact H0
  isplitl [H1]; · iexact H1
  isplitl [H3]; · iexact H3
  isplitl [Ht]; · iexact Ht
  isplitl [Htd]; · iexact Htd
  isplitl [Hd]; · iexact Hd
  iexact Hw

/-- The second part: slot 1's block out, slot 0's refill, slot 2's block from full to emptying, slot 1's refill. -/
theorem part2_spec (v2 : BitVec 32) (t : Fin k0_t1_loop.trips) (v39 v59 : BitVec 32) :
    iprop(emptying d i X tb b0 in0 out0 q0 (4 * t.val) ∗ full d i X b1 in1 out1 q1 (addf (xblk i X (4 * t.val + 1)) tb)
        ∗ ready d i X tb b2 in2 out2 q2 (4 * t.val + 2)
        ∗ holds d i bT tb ∗ todo d i f (4 * t.val + 1) ∗ done d i X tb (min (4 * t.val) 60) ∗ ow d i O W)
      ⊢ wp frame (wpE (defs₀ (F := F)) 𝒱₀ (thr d i) none) Set.univ
          (k0_part2 i xW (Memref.isWhole_whole _) tW (Memref.isWhole_whole _) oW (Memref.isWhole_whole _) bT (Memref.isWhole_whole _)
            b0 (Memref.isWhole_whole _) b1 (Memref.isWhole_whole _) b2 (Memref.isWhole_whole _) b3 (Memref.isWhole_whole _)
            cc0_scratch5 cc0_scratch6 cc0_scoped0 v2 t v39 v59)
          fun _ => iprop(ready d i X tb b0 in0 out0 q0 (4 * t.val + 4) ∗ ready d i X tb b1 in1 out1 q1 (4 * t.val + 5)
            ∗ emptying d i X tb b2 in2 out2 q2 (4 * t.val + 2)
            ∗ holds d i bT tb ∗ todo d i f (4 * t.val + 3) ∗ done d i X tb (min (4 * t.val + 2) 60) ∗ ow d i O W) := by
  have ht := t1_lt t
  rw [ready_lt d i X tb b2 in2 out2 q2 (by omega), todo_take d i f (n := 4 * t.val + 1) (by omega), todo_take d i f (n := 4 * t.val + 1 + 1) (by omega)]
  simp only [k0_part2_eq_skeleton]; unfold k0_part2_skel
  iintro ⟨H0, H1, H2, Ht, ⟨Ho, Ho', Htd⟩, Hd, Hw⟩
  simp only [Prog.lift, Prog.bind_op, Prog.bind_ret, Prog.pure_eq_ret]
  iapply (start_empty d i X tb b1 in1 out1 q1 (4 * t.val + 1) (off2 i t 1) (k0_off2_inb i t 1) (fun _ => rfl) (Memref.isWhole_whole _).wordExact (View.wordExact_bits rfl) ⟨Or.inl rfl, trivial⟩ f)
  isplitl [H1]; · iexact H1
  isplitl [Ho]; · iexact Ho
  iintro H1
  ihave H0 := (spent_of d i X tb b0 in0 out0 q0 (m := 4 * t.val) (n := 4 * t.val + 4) rfl) $$ H0
  iapply (refill d i O W X tb b0 in0 out0 q0 (4 * t.val + 4) (m := min (4 * t.val) 60) (m' := min (4 * t.val + 1) 60) (by omega) (by omega) (cond3 t) (cond4 t) (fun _ => off7 i t) (off8 i t) (k0_off7_inb i t) (k0_off8_inb i t) (Memref.isWhole_whole _))
  isplitl [H0]; · iexact H0
  isplitl [Hd]; · iexact Hd
  isplitl [Hw]; · iexact Hw
  iintro ⟨H0, Hd, Hw⟩
  iapply (wait_fill d i O W X b2 in2 out2 q2 (4 * t.val + 2))
  isplitl [H2]; · iexact H2
  isplitl [Hw]; · iexact Hw
  iintro ⟨H2, Hw⟩
  iapply (add_table d i X b2 bT in2 out2 q2 _ tb k0_t4_loop k0_t4_ok (by decide +kernel) k0_off9 k0_off9_inb k0_pay3 k0_off9_eq pay_eq)
  isplitl [H2]; · iexact H2
  isplitl [Ht]; · iexact Ht
  iintro ⟨H2, Ht⟩
  iapply (start_empty d i X tb b2 in2 out2 q2 (4 * t.val + 2) (off2 i t 2) (k0_off2_inb i t 2) (fun _ => rfl) (Memref.isWhole_whole _).wordExact (View.wordExact_bits rfl) ⟨Or.inl rfl, trivial⟩ f)
  isplitl [H2]; · iexact H2
  isplitl [Ho']; · iexact Ho'
  iintro H2
  ihave H1 := (spent_of d i X tb b1 in1 out1 q1 (m := 4 * t.val + 1) (n := 4 * t.val + 5) (by omega)) $$ H1
  iapply (refill d i O W X tb b1 in1 out1 q1 (4 * t.val + 5) (m := min (4 * t.val + 1) 60) (m' := min (4 * t.val + 2) 60) (by omega) (by omega) (cond5 t) (cond6 t) (fun _ => off10 i t) (off11 i t) (k0_off10_inb i t) (k0_off11_inb i t) (Memref.isWhole_whole _))
  isplitl [H1]; · iexact H1
  isplitl [Hd]; · iexact Hd
  isplitl [Hw]; · iexact Hw
  iintro ⟨H1, Hd, Hw⟩
  sl_step
  isplitl [H0]; · iexact H0
  isplitl [H1]; · iexact H1
  isplitl [H2]; · iexact H2
  isplitl [Ht]; · iexact Ht
  isplitl [Htd]; · iexact Htd
  isplitl [Hd]; · iexact Hd
  iexact Hw

/-- The group loop's invariant before trip `t`: the slots of blocks `4 t`, `4 t + 1`, `4 t + 2` ready, that of block
    `4 t + 3` before its refill; the table; the result's blocks from `4 t` on unwritten and those below `4 t - 1` written. -/
def groupInv (t : ℕ) : sProp 𝕄 :=
  iprop(ready d i X tb b0 in0 out0 q0 (4 * t) ∗ ready d i X tb b1 in1 out1 q1 (4 * t + 1) ∗ ready d i X tb b2 in2 out2 q2 (4 * t + 2)
    ∗ spent d i X tb b3 in3 out3 q3 (4 * t + 3)
    ∗ holds d i bT tb ∗ todo d i f (4 * t) ∗ done d i X tb (min (4 * t - 1) 60) ∗ ow d i O W)

/-- One trip of the group loop keeps the invariant. -/
theorem group_spec (v2 : BitVec 32) (t : Fin k0_t1_loop.trips) :
    groupInv d i O W X tb f q0 q1 q2 q3 t.val
      ⊢ wp frame (wpE (defs₀ (F := F)) 𝒱₀ (thr d i) none) Set.univ
          (k0_t1_body i xW (Memref.isWhole_whole _) tW (Memref.isWhole_whole _) oW (Memref.isWhole_whole _) bT (Memref.isWhole_whole _)
            b0 (Memref.isWhole_whole _) b1 (Memref.isWhole_whole _) b2 (Memref.isWhole_whole _) b3 (Memref.isWhole_whole _)
            cc0_scratch5 cc0_scratch6 cc0_scoped0 v2 t ⟨⟩)
          fun _ => groupInv d i O W X tb f q0 q1 q2 q3 (t.val + 1) := by
  have ht := t1_lt t
  unfold groupInv k0_t1_body
  iintro ⟨H0, H1, H2, H3, Ht, Htd, Hd, Hw⟩
  rw [wp_bind]
  iapply (wp_wand_r frame (wpE (defs₀ (F := F)) 𝒱₀ (thr d i) none) Set.univ)
  isplitl [H0 H1 H3 Ht Htd Hd Hw]
  · iapply (part1_spec d i O W X tb f q0 q1 q3 v2 t)
    isplitl [H0]; · iexact H0
    isplitl [H1]; · iexact H1
    isplitl [H3]; · iexact H3
    isplitl [Ht]; · iexact Ht
    isplitl [Htd]; · iexact Htd
    isplitl [Hd]; · iexact Hd
    iexact Hw
  iintro %r ⟨H0, H1, H3, Ht, Htd, Hd, Hw⟩
  rw [wp_bind]
  iapply (wp_wand_r frame (wpE (defs₀ (F := F)) 𝒱₀ (thr d i) none) Set.univ)
  isplitl [H0 H1 H2 Ht Htd Hd Hw]
  · iapply (part2_spec d i O W X tb f q0 q1 q2 v2 t r.1 r.2)
    isplitl [H0]; · iexact H0
    isplitl [H1]; · iexact H1
    isplitl [H2]; · iexact H2
    isplitl [Ht]; · iexact Ht
    isplitl [Htd]; · iexact Htd
    isplitl [Hd]; · iexact Hd
    iexact Hw
  iintro %r' ⟨H0, H1, H2, Ht, Htd, Hd, Hw⟩
  ihave H3 := (Entails.of_eq (ready_lt d i X tb b3 in3 out3 q3 (n := 4 * t.val + 3) (by omega))) $$ H3
  ihave Htd := (Entails.of_eq (todo_take d i f (n := 4 * t.val + 3) (by omega))) $$ Htd
  icases Htd with ⟨Ho, Htd⟩
  simp only [Prog.lift, Prog.bind_op, Prog.bind_ret, Prog.pure_eq_ret]
  iapply (wait_fill d i O W X b3 in3 out3 q3 (4 * t.val + 3))
  isplitl [H3]; · iexact H3
  isplitl [Hw]; · iexact Hw
  iintro ⟨H3, Hw⟩
  iapply (add_table d i X b3 bT in3 out3 q3 _ tb k0_t5_loop k0_t5_ok (by decide +kernel) k0_off12 k0_off12_inb k0_pay4 k0_off12_eq pay_eq)
  isplitl [H3]; · iexact H3
  isplitl [Ht]; · iexact Ht
  iintro ⟨H3, Ht⟩
  iapply (start_empty d i X tb b3 in3 out3 q3 (4 * t.val + 3) (off2 i t 3) (k0_off2_inb i t 3) (fun _ => rfl) (Memref.isWhole_whole _).wordExact (View.wordExact_bits rfl) ⟨Or.inl rfl, trivial⟩ f)
  isplitl [H3]; · iexact H3
  isplitl [Ho]; · iexact Ho
  iintro H3
  ihave H2 := (spent_of d i X tb b2 in2 out2 q2 (m := 4 * t.val + 2) (n := 4 * t.val + 6) (by omega)) $$ H2
  iapply (refill d i O W X tb b2 in2 out2 q2 (4 * t.val + 6) (m := min (4 * t.val + 2) 60) (m' := min (4 * t.val + 3) 60) (by omega) (by omega) (cond7 t) (cond8 t) (fun _ => off13 i t) (off14 i t) (k0_off13_inb i t) (k0_off14_inb i t) (Memref.isWhole_whole _))
  isplitl [H2]; · iexact H2
  isplitl [Hd]; · iexact Hd
  isplitl [Hw]; · iexact Hw
  iintro ⟨H2, Hd, Hw⟩
  sl_step
  ihave H0 := (ready_of d i X tb b0 in0 out0 q0 (m := 4 * t.val + 4) (n := 4 * (t.val + 1)) (by omega)) $$ H0
  ihave H1 := (ready_of d i X tb b1 in1 out1 q1 (m := 4 * t.val + 5) (n := 4 * (t.val + 1) + 1) (by omega)) $$ H1
  ihave H2 := (ready_of d i X tb b2 in2 out2 q2 (m := 4 * t.val + 6) (n := 4 * (t.val + 1) + 2) (by omega)) $$ H2
  ihave Htd := (todo_of d i f (m := 4 * t.val + 3 + 1) (n := 4 * (t.val + 1)) (by omega)) $$ Htd
  ihave Hd := (done_of d i X tb (m := min (4 * t.val + 3) 60) (n := min (4 * (t.val + 1) - 1) 60) (by omega)) $$ Hd
  ihave H3 := (spent_of d i X tb b3 in3 out3 q3 (m := 4 * t.val + 3) (n := 4 * (t.val + 1) + 3) (by omega)) $$ H3
  isplitl [H0]; · iexact H0
  isplitl [H1]; · iexact H1
  isplitl [H2]; · iexact H2
  isplitl [H3]; · iexact H3
  isplitl [Ht]; · iexact Ht
  isplitl [Htd]; · iexact Htd
  isplitl [Hd]; · iexact Hd
  iexact Hw

end Group

end Cert.Proof.PosAdd
-- ==== Proof.Tile.lean ====
/-
  A tile's whole run: the table is copied in, the first three slots are started, the group loop runs, and the last four
  blocks are waited for. From the tile's share of `x` and of the table and its 64 blocks of the result, to the same with
  the result's blocks written.
-/
module

public import proofs.«01_k».proof.Proof.Group

@[expose] public section

set_option maxHeartbeats 1000000

noncomputable section

namespace Cert.Proof.PosAdd

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable [FloatOps F]

-- the three arrays in HBM as a tile addresses them, the table's buffer, and the ring's four buffers and their semaphores
local notation "xW" => (Memref.whole Cert.KernelIdeal.main_v0_scv : Memref Cert.KernelIdeal.sig Kind.scVector Space.hbm Cert.KernelIdeal.S33554432 EltTy.f32)
local notation "tW" => (Memref.whole Cert.KernelIdeal.main_v1_scv : Memref Cert.KernelIdeal.sig Kind.scVector Space.hbm Cert.KernelIdeal.S16384 EltTy.f32)
local notation "oW" => (Memref.whole Cert.KernelIdeal.main_v2_scv : Memref Cert.KernelIdeal.sig Kind.scVector Space.hbm Cert.KernelIdeal.S33554432 EltTy.f32)
local notation "bT" => (Memref.whole Cert.KernelIdeal.cc0_scratch0 : Memref Cert.KernelIdeal.sig Kind.scVector Space.vmem Cert.KernelIdeal.S16384 EltTy.f32)
local notation "b0" => (Memref.whole Cert.KernelIdeal.cc0_scratch1 : Memref Cert.KernelIdeal.sig Kind.scVector Space.vmem Cert.KernelIdeal.S16384 EltTy.f32)
local notation "b1" => (Memref.whole Cert.KernelIdeal.cc0_scratch2 : Memref Cert.KernelIdeal.sig Kind.scVector Space.vmem Cert.KernelIdeal.S16384 EltTy.f32)
local notation "b2" => (Memref.whole Cert.KernelIdeal.cc0_scratch3 : Memref Cert.KernelIdeal.sig Kind.scVector Space.vmem Cert.KernelIdeal.S16384 EltTy.f32)
local notation "b3" => (Memref.whole Cert.KernelIdeal.cc0_scratch4 : Memref Cert.KernelIdeal.sig Kind.scVector Space.vmem Cert.KernelIdeal.S16384 EltTy.f32)

section Tile

variable (d : Dev nD) (i : grid0.Coords) (O : CellTallies nD τ sig (HIx 1)) (W : Waits sig (HIx 1))
variable (X : Vec F S33554432 .f32) (tb : Vec F S16384 .f32) (f : Vec F S33554432 .f32)
variable (q0 q1 q2 q3 qt : PosShare TreeShare)

/-- The table in HBM, at share `q`. -/
def tabAll (q : PosShare TreeShare) : sProp 𝕄 := (tW).view.loc (thr d i) ↦[(tW).view.set]{q} tb

/-- Copying the table into the tile's buffer, and waiting for it. -/
theorem copy_table {α : Type} {Q : α → sProp 𝕄} (sm : DmaSem sig) (h₁ h₂ h₃ h₄ h₅) (k : Prog (TpuEff nD τ sig (Elt F) Λ₀ (thr d i).2) α) :
    iprop(tabAll d i tb qt ∗ (∃ g, holds d i bT g) ∗ semVal (thr d i, SemLoc.dma sm) 0 ∗ ow d i O W
        ∗ ((tabAll d i tb qt ∗ holds d i bT tb ∗ semVal (thr d i, SemLoc.dma sm) 0 ∗ ow d i O W)
          -∗ wp frame (wpE (defs₀ (F := F)) 𝒱₀ (thr d i) none) Set.univ k Q))
      ⊢ wp frame (wpE (defs₀ (F := F)) 𝒱₀ (thr d i) none) Set.univ
          (.op (.enqueueDma tW (.here bT) (.dma sm) h₁ h₂ h₃) fun _ => .op (.waitDma2 sm tW bT h₄ h₅) fun _ => k) Q := by
  unfold tabAll ow holds
  iintro ⟨Hs, ⟨%g, %ft, %hft, Hb⟩, Hsm, ⟨#Hmw, %W', %hW', HO⟩, Hk⟩
  iapply (Transfers.wp_dmaLocal countersEmb 𝒱₀ (thr d i) none (src := tW) (dst := bT) (sm := .dma sm) (none : HIx 1) (bT).view.dmaCredit rfl
    (View.dmaCredit_pos _ (show 0 < S16384.numel by decide)) (Finset.Subset.refl _)) $$ [Hs Hb Hsm]
  · isplitl [Hs]; · iexact Hs
    isplitl [Hb]; · iexact Hb
    iexact Hsm
  iintro HF
  ihave Hm := (Transfers.MayWaits.elim (SemLoc.dma sm)) $$ Hmw
  iapply (Transfers.wp_waitLocalO countersEmb 𝒱₀ (thr d i) none (none : HIx 1) (dstw := bT) rfl) $$ [HF HO Hm]
  · isplitl [HF]; · iexact HF
    isplitl [HO]; · iexact HO
    iexact Hm
  iintro ⟨⟨Hb, Hs⟩, Hsm, HO⟩
  iapply Hk
  isplitl [Hs]; · iexact Hs
  isplitl [Hb]
  · iexists ((bT).view.write (Elt F) ft tb Finset.univ); isplitr
    · ipureintro; exact View.read_write_univ _ _
    · iexact Hb
  isplitl [Hsm]; · iexact Hsm
  isplitr; · iexact Hmw
  iexists (insert (SemLoc.dma sm, (none : HIx 1)) W'); isplitr
  · ipureintro
    intro p hp
    rcases Finset.mem_insert.mp hp with hp | hp
    · exact .inr (hp ▸ rfl)
    · exact hW' p hp
  · iexact HO

/-- What a tile starts from and ends with, beside the blocks of the result: its four slots free, its share of the table,
    the table's buffer, the table's semaphore, and what it owes. -/
def idle : sProp 𝕄 :=
  iprop(free d i X b0 in0 out0 q0 ∗ free d i X b1 in1 out1 q1 ∗ free d i X b2 in2 out2 q2 ∗ free d i X b3 in3 out3 q3
    ∗ tabAll d i tb qt ∗ (∃ g, holds d i bT g) ∗ semVal (thr d i, SemLoc.dma cc0_scoped0.sem) 0 ∗ ow d i O W)

/-- The run up to the last two waits: slots 2 and 3 are still emptying, as blocks 62 and 63. -/
theorem part3_spec :
    iprop(idle d i O W X tb q0 q1 q2 q3 qt ∗ todo d i f 0 ∗ done d i X tb 0)
      ⊢ wp frame (wpE (defs₀ (F := F)) 𝒱₀ (thr d i) none) Set.univ
          (k0_part3 i xW (Memref.isWhole_whole _) tW (Memref.isWhole_whole _) oW (Memref.isWhole_whole _) bT (Memref.isWhole_whole _)
            b0 (Memref.isWhole_whole _) b1 (Memref.isWhole_whole _) b2 (Memref.isWhole_whole _) b3 (Memref.isWhole_whole _)
            cc0_scratch5 cc0_scratch6 cc0_scoped0)
          fun _ => iprop(free d i X b0 in0 out0 q0 ∗ free d i X b1 in1 out1 q1 ∗ emptying d i X tb b2 in2 out2 q2 62 ∗ emptying d i X tb b3 in3 out3 q3 63
            ∗ tabAll d i tb qt ∗ (∃ g, holds d i bT g) ∗ semVal (thr d i, SemLoc.dma cc0_scoped0.sem) 0 ∗ done d i X tb 62 ∗ ow d i O W) := by
  simp only [k0_part3_eq_skeleton]; unfold k0_part3_skel idle
  iintro ⟨⟨H0, H1, H2, H3, Hs, Ht, Hsm, Hw⟩, Htd, Hd⟩
  simp only [Prog.lift, Prog.bind_op, Prog.bind_ret, Prog.pure_eq_ret]
  iapply (copy_table d i O W tb qt cc0_scoped0.sem)
  isplitl [Hs]; · iexact Hs
  isplitl [Ht]; · iexact Ht
  isplitl [Hsm]; · iexact Hsm
  isplitl [Hw]; · iexact Hw
  iintro ⟨Hs, Ht, Hsm, Hw⟩
  iapply (start_fill d i X b0 in0 out0 q0 0 (off1 i 0) (k0_off1_inb i 0) (fun _ => rfl) (View.wordExact_bits rfl) (Memref.isWhole_whole _).wordExact ⟨Or.inl rfl, trivial⟩)
  isplitl [H0]; · iexact H0
  iintro H0
  iapply (start_fill d i X b1 in1 out1 q1 1 (off1 i 1) (k0_off1_inb i 1) (fun _ => rfl) (View.wordExact_bits rfl) (Memref.isWhole_whole _).wordExact ⟨Or.inl rfl, trivial⟩)
  isplitl [H1]; · iexact H1
  iintro H1
  iapply (start_fill d i X b2 in2 out2 q2 2 (off1 i 2) (k0_off1_inb i 2) (fun _ => rfl) (View.wordExact_bits rfl) (Memref.isWhole_whole _).wordExact ⟨Or.inl rfl, trivial⟩)
  isplitl [H2]; · iexact H2
  iintro H2
  iapply (Scf.wp_for_bind frame (wpE (defs₀ (F := F)) 𝒱₀ (thr d i) none) Set.univ k0_t1_loop.lb k0_t1_loop.ub k0_t1_loop.st k0_t1_ok ⟨⟩ _
    (fun t _ => groupInv d i O W X tb f q0 q1 q2 q3 t) (fun t _ => group_spec d i O W X tb f q0 q1 q2 q3 _ t)) $$ [H0 H1 H2 H3 Ht Htd Hd Hw]
  · unfold groupInv
    isplitl [H0]; · iapply (Entails.of_eq (ready_lt d i X tb b0 in0 out0 q0 (n := 4 * 0) (by decide)).symm); iexact H0
    isplitl [H1]; · iapply (Entails.of_eq (ready_lt d i X tb b1 in1 out1 q1 (n := 4 * 0 + 1) (by decide)).symm); iexact H1
    isplitl [H2]; · iapply (Entails.of_eq (ready_lt d i X tb b2 in2 out2 q2 (n := 4 * 0 + 2) (by decide)).symm); iexact H2
    isplitl [H3]; · iapply (Entails.of_eq (spent_lt d i X tb b3 in3 out3 q3 (n := 4 * 0 + 3) (by decide)).symm); iexact H3
    isplitl [Ht]; · iexact Ht
    isplitl [Htd]; · iexact Htd
    isplitl [Hd]; · iapply (done_of d i X tb (m := 0) (n := min (4 * 0 - 1) 60) (by decide)); iexact Hd
    iexact Hw
  iintro %_ HI
  ihave HI := (Entails.of_eq (congrArg (groupInv d i O W X tb f q0 q1 q2 q3) trips1)) $$ HI
  unfold groupInv
  icases HI with ⟨H0, H1, H2, H3, Ht, -, Hd, Hw⟩
  ihave H0 := (Entails.of_eq (ready_end d i X tb b0 in0 out0 q0 (n := 4 * 16) (by decide))) $$ H0
  ihave H1 := (Entails.of_eq (ready_end d i X tb b1 in1 out1 q1 (n := 4 * 16 + 1) (by decide))) $$ H1
  ihave H2 := (Entails.of_eq (ready_end d i X tb b2 in2 out2 q2 (n := 4 * 16 + 2) (by decide))) $$ H2
  ihave H3 := (Entails.of_eq (spent_ge d i X tb b3 in3 out3 q3 (n := 4 * 16 + 3) (by decide))) $$ H3
  ihave Hd := (done_of d i X tb (m := min (4 * 16 - 1) 60) (n := 60) (by decide)) $$ Hd
  iapply (wait_empty d i O W X tb b0 in0 out0 q0 60 (off1 i 3) (k0_off1_inb i 3) (fun _ => rfl) b0 (Memref.isWhole_whole _).wordExact (View.wordExact_bits rfl))
  isplitl [H0]; · iexact H0
  isplitl [Hw]; · iexact Hw
  iintro ⟨H0, Ho, Hw⟩
  ihave Hd := (Entails.of_eq (done_put d i X tb 60).symm) $$ [Ho Hd]
  · isplitl [Ho]; · iexact Ho
    iexact Hd
  iapply (wait_empty d i O W X tb b1 in1 out1 q1 61 (off1 i 4) (k0_off1_inb i 4) (fun _ => rfl) b1 (Memref.isWhole_whole _).wordExact (View.wordExact_bits rfl))
  isplitl [H1]; · iexact H1
  isplitl [Hw]; · iexact Hw
  iintro ⟨H1, Ho, Hw⟩
  ihave Hd := (Entails.of_eq (done_put d i X tb 61).symm) $$ [Ho Hd]
  · isplitl [Ho]; · iexact Ho
    iexact Hd
  sl_step
  isplitl [H0]; · iexact H0
  isplitl [H1]; · iexact H1
  isplitl [H2]; · iexact H2
  isplitl [H3]; · iexact H3
  isplitl [Hs]; · iexact Hs
  isplitl [Ht]; · iexists tb; iexact Ht
  isplitl [Hsm]; · iexact Hsm
  isplitl [Hd]; · iexact Hd
  iexact Hw

/-- The tile's whole run. -/
theorem run_spec :
    iprop(idle d i O W X tb q0 q1 q2 q3 qt ∗ todo d i f 0 ∗ done d i X tb 0)
      ⊢ wp frame (wpE (defs₀ (F := F)) 𝒱₀ (thr d i) none) Set.univ
          (cc0_run i xW (Memref.isWhole_whole _) tW (Memref.isWhole_whole _) oW (Memref.isWhole_whole _) bT (Memref.isWhole_whole _)
            b0 (Memref.isWhole_whole _) b1 (Memref.isWhole_whole _) b2 (Memref.isWhole_whole _) b3 (Memref.isWhole_whole _)
            cc0_scratch5 cc0_scratch6 cc0_scoped0)
          fun _ => iprop(idle d i O W X tb q0 q1 q2 q3 qt ∗ done d i X tb 64) := by
  simp only [cc0_run_eq_skeleton]; unfold cc0_run_skel
  iintro H
  rw [wp_bind]
  iapply (wp_wand_r frame (wpE (defs₀ (F := F)) 𝒱₀ (thr d i) none) Set.univ)
  isplitl [H]
  · iapply (part3_spec d i O W X tb f q0 q1 q2 q3 qt); iexact H
  iintro %r ⟨H0, H1, H2, H3, Hs, Ht, Hsm, Hd, Hw⟩
  simp only [Prog.lift, Prog.bind_op, Prog.bind_ret, Prog.pure_eq_ret]
  iapply (wait_empty d i O W X tb b2 in2 out2 q2 62 (off1 i 5) (k0_off1_inb i 5) (fun _ => rfl) b2 (Memref.isWhole_whole _).wordExact (View.wordExact_bits rfl))
  isplitl [H2]; · iexact H2
  isplitl [Hw]; · iexact Hw
  iintro ⟨H2, Ho, Hw⟩
  ihave Hd := (Entails.of_eq (done_put d i X tb 62).symm) $$ [Ho Hd]
  · isplitl [Ho]; · iexact Ho
    iexact Hd
  iapply (wait_empty d i O W X tb b3 in3 out3 q3 63 (off1 i 6) (k0_off1_inb i 6) (fun _ => rfl) b3 (Memref.isWhole_whole _).wordExact (View.wordExact_bits rfl))
  isplitl [H3]; · iexact H3
  isplitl [Hw]; · iexact Hw
  iintro ⟨H3, Ho, Hw⟩
  ihave Hd := (Entails.of_eq (done_put d i X tb 63).symm) $$ [Ho Hd]
  · isplitl [Ho]; · iexact Ho
    iexact Hd
  sl_step
  isplitr [Hd]
  · unfold idle
    isplitl [H0]; · iexact H0
    isplitl [H1]; · iexact H1
    isplitl [H2]; · iexact H2
    isplitl [H3]; · iexact H3
    isplitl [Hs]; · iexact Hs
    isplitl [Ht]; · iexact Ht
    isplitl [Hsm]; · iexact Hsm
    iexact Hw
  · iexact Hd

end Tile

end Cert.Proof.PosAdd
-- ==== Proof.Task.lean ====
/-
  A tile's task as the launch sees it: the tile's run of `Tile.lean` from the tile's own buffers and semaphores, at the
  coordinates of any SparseCore and tile, and the task's obligation in the launch theorem. Also: the result array is the
  64 blocks of each of the 16 tiles of the 2 SparseCores.
-/
module

public import proofs.«01_k».proof.Proof.Tile
public import Idealize.ShloMosaic.Lib.ShareLeaves

@[expose] public section

noncomputable section

namespace Cert.Proof.PosAdd

open Idealize.ShloMosaic.ShareLeaves (leaf pointsTo_leaves)
open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable [FloatOps F]

-- the three arrays in HBM as a tile addresses them, the table's buffer, and the ring's four buffers and their semaphores
local notation "xW" => (Memref.whole Cert.KernelIdeal.main_v0_scv : Memref Cert.KernelIdeal.sig Kind.scVector Space.hbm Cert.KernelIdeal.S33554432 EltTy.f32)
local notation "tW" => (Memref.whole Cert.KernelIdeal.main_v1_scv : Memref Cert.KernelIdeal.sig Kind.scVector Space.hbm Cert.KernelIdeal.S16384 EltTy.f32)
local notation "oW" => (Memref.whole Cert.KernelIdeal.main_v2_scv : Memref Cert.KernelIdeal.sig Kind.scVector Space.hbm Cert.KernelIdeal.S33554432 EltTy.f32)
local notation "bT" => (Memref.whole Cert.KernelIdeal.cc0_scratch0 : Memref Cert.KernelIdeal.sig Kind.scVector Space.vmem Cert.KernelIdeal.S16384 EltTy.f32)
local notation "b0" => (Memref.whole Cert.KernelIdeal.cc0_scratch1 : Memref Cert.KernelIdeal.sig Kind.scVector Space.vmem Cert.KernelIdeal.S16384 EltTy.f32)
local notation "b1" => (Memref.whole Cert.KernelIdeal.cc0_scratch2 : Memref Cert.KernelIdeal.sig Kind.scVector Space.vmem Cert.KernelIdeal.S16384 EltTy.f32)
local notation "b2" => (Memref.whole Cert.KernelIdeal.cc0_scratch3 : Memref Cert.KernelIdeal.sig Kind.scVector Space.vmem Cert.KernelIdeal.S16384 EltTy.f32)
local notation "b3" => (Memref.whole Cert.KernelIdeal.cc0_scratch4 : Memref Cert.KernelIdeal.sig Kind.scVector Space.vmem Cert.KernelIdeal.S16384 EltTy.f32)

/-! ## Taking members out of a separating conjunction over a set -/

/-- The members of a list taken out of a separating conjunction over a set, in the list's order. -/
theorem bigSep_take {A : Type} [DecidableEq A] (Φ : A → sProp 𝕄) :
    ∀ (l : List A) (s : Finset A), l.Nodup → (∀ a ∈ l, a ∈ s) →
      bigSep s Φ = l.foldr (fun a R => iprop(Φ a ∗ R)) (bigSep (l.foldl Finset.erase s) Φ)
  | [], _, _, _ => rfl
  | a :: l, s, hn, hs => by
    have hn' := List.nodup_cons.mp hn
    rw [SparseCore.bigSep_erase' (hs a (List.mem_cons_self ..)),
      bigSep_take Φ l (s.erase a) hn'.2 fun b hb => Finset.mem_erase.mpr ⟨fun e => hn'.1 (e ▸ hb), hs b (List.mem_cons_of_mem _ hb)⟩]
    rfl

section Tile

variable (d : Dev nD) (i : grid0.Coords)

/-- The nine semaphores the kernel uses: the ring's eight and the table copy's. -/
def sems : List (DmaSem sig) := [in0, out0, in1, out1, in2, out2, in3, out3, cc0_scoped0.sem]
/-- The five buffers: the table's and the ring's four. -/
def bufs : List (Ref sig .scVector) := [cc0_scratch0, cc0_scratch1, cc0_scratch2, cc0_scratch3, cc0_scratch4]

def semCells : List (GSem nD τ sig) := sems.map fun s => (thr d i, SemLoc.dma s)
def bufRefs : List (DevRef τ sig) := bufs.map (thr d i).2.devRef

/-- The nine semaphores are among the tile's own. -/
theorem ownSems0_V :
    (ownSems0 (thr d i) : sProp 𝕄)
      = (semCells d i).foldr (fun g R => iprop(semVal g 0 ∗ R)) (bigSep ((semCells d i).foldl Finset.erase (ownCells (thr d i))) fun g => semVal g 0) := by
  unfold SparseCore.Cfg.ownSems0
  refine bigSep_take (fun g => semVal g 0) (semCells d i) _ ?_ ?_
  · exact List.Nodup.map (fun a b e => SemLoc.dma.inj (Prod.mk.inj e).2) (show sems.Nodup by decide)
  · intro g hg
    obtain ⟨s, hs, rfl⟩ := List.mem_map.mp hg
    exact mem_ownCells.mpr ⟨rfl, (show ∀ s ∈ sems, (SemLoc.dma s : SemLoc sig).isScoped .scVector = true by decide) s hs⟩

/-- The five buffers are among the tile's own. -/
theorem ownBufs_V :
    (ownBufs (thr d i) : sProp 𝕄)
      = (bufRefs d i).foldr (fun b R => iprop((∃ f, ((d, b) : Loc nD τ sig) ↦{fullShare} f) ∗ R))
          (bigSep ((bufRefs d i).foldl Finset.erase (ownRefs (τ := τ) (thr d i).2)) fun b => iprop(∃ f, ((d, b) : Loc nD τ sig) ↦{fullShare} f)) := by
  unfold SparseCore.Cfg.ownBufs
  refine bigSep_take (fun b => iprop(∃ f, ((d, b) : Loc nD τ sig) ↦{fullShare} f)) (bufRefs d i) _ ?_ ?_
  · exact List.Nodup.map (Proc.devRef_injective _) (show bufs.Nodup by decide)
  · intro g hg
    obtain ⟨s, hs, rfl⟩ := List.mem_map.mp hg
    refine SparseCore.Cfg.mem_ownRefs_of_owner ?_
    revert s
    exact fun s hs _ => by
      simp only [bufs, List.mem_cons, List.not_mem_nil, or_false] at hs
      rcases hs with rfl | rfl | rfl | rfl | rfl <;> rfl

/-- A buffer owned whole, at any contents, is the buffer holding something. -/
theorem holds_any (v : BufRef) (h : v.view.set = Finset.univ) :
    (iprop(∃ f, v.view.loc (thr d i) ↦{fullShare} f) : sProp 𝕄) ⊣⊢ iprop(∃ g, holds d i v g) := by
  unfold holds
  rw [h]
  constructor
  · iintro ⟨%f, H⟩
    iexists (v.view.read (Elt F) f); iexists f; isplitr
    · ipureintro; rfl
    · iexact H
  · iintro ⟨%g, %f, -, H⟩
    iexists f; iexact H

variable (X : Vec F S33554432 .f32) (tb : Vec F S16384 .f32) (f : Vec F S33554432 .f32)

/-- All of `x` at a share is all of it at the share's two halves. -/
theorem xAll_halves (q : PosShare TreeShare) : (xAll d i X q : sProp 𝕄) ⊣⊢ iprop(xAll d i X q.left ∗ xAll d i X q.right) :=
  pointsTo_share (PosShare.mem_left_op_right q)

/-- A free slot is a buffer, a share of `x` and two semaphores at zero. -/
theorem free_eq (b : BufRef) (si so : DmaSem sig) (q : PosShare TreeShare) :
    (free d i X b si so q : sProp 𝕄) ⊣⊢ iprop((∃ g, holds d i b g) ∗ xAll d i X q ∗ semVal (thr d i, SemLoc.dma si) 0 ∗ semVal (thr d i, SemLoc.dma so) 0) := by
  unfold free full
  constructor
  · iintro ⟨%g, Hb, Hr⟩
    isplitl [Hb]; · iexists g; iexact Hb
    iexact Hr
  · iintro ⟨⟨%g, Hb⟩, Hr⟩
    iexists g
    isplitl [Hb]; · iexact Hb
    iexact Hr

/-- The task on the tile at coordinates `i`: from a share of `x` and of the table and its 64 blocks of the result, to the
    same with the blocks written; its own buffers and semaphores as they were. -/
theorem tile_body (hF : (K (F := F)).Facts) (q : PosShare TreeShare) (O : CellTallies nD τ sig (HIx 1)) (W : Waits sig (HIx 1)) (hO : ∀ g, O g none = 0) :
    iprop(levAts (K (F := F)).L (K (F := F)).lev ∗ emp
        ∗ (xAll d i X q ∗ tabAll d i tb q ∗ todo d i f 0)
        ∗ scopedBufs (thr d i) ∗ scopedSems0 (thr d i) ∗ owes (thr d i) O W)
      ⊢ wp frame (wpE (defs₀ (F := F)) 𝒱₀ (thr d i) none) Set.univ
          (cc0_run i xW (Memref.isWhole_whole _) tW (Memref.isWhole_whole _) oW (Memref.isWhole_whole _) bT (Memref.isWhole_whole _)
            b0 (Memref.isWhole_whole _) b1 (Memref.isWhole_whole _) b2 (Memref.isWhole_whole _) b3 (Memref.isWhole_whole _)
            cc0_scratch5 cc0_scratch6 cc0_scoped0)
          fun _ => iprop((xAll d i X q ∗ tabAll d i tb q ∗ todo d i (res X tb) 0)
            ∗ scopedBufs (thr d i) ∗ scopedSems0 (thr d i)
            ∗ ∃ W', ⌜∀ p ∈ W', p ∈ W ∨ p.2 = none⌝ ∗ owes (thr d i) O W') := by
  rw [(K (F := F)).scopedBufs_V hF d ((i 0).castLE hcore0) ((i 1).castLE hsub0),
    SparseCore.Cfg.scopedSems0_V (Val := Elt F) d ((i 0).castLE hcore0) ((i 1).castLE hsub0), ownSems0_V, ownBufs_V]
  generalize (bigSep ((semCells d i).foldl Finset.erase (ownCells (thr d i))) fun g => (semVal g 0 : sProp 𝕄)) = RS
  generalize (bigSep ((bufRefs d i).foldl Finset.erase (ownRefs (τ := τ) (thr d i).2)) fun b => (iprop(∃ f, ((d, b) : Loc nD τ sig) ↦{fullShare} f) : sProp 𝕄)) = RB
  simp only [semCells, bufRefs, sems, bufs, List.map, List.foldr]
  iintro ⟨#Hlv, -, ⟨Hx, Ht, Hd⟩, ⟨HbT, Hb0, Hb1, Hb2, Hb3, HRB⟩, ⟨Hi0, Ho0, Hi1, Ho1, Hi2, Ho2, Hi3, Ho3, Hs, HRS⟩, HO⟩
  ihave #Hmw := (show levAts (K (F := F)).L (K (F := F)).lev ⊢ Transfers.MayWaits (thr d i) (none : HIx 1) O from
    (K (F := F)).mayWaits_none (thr := thr d i) hO) $$ Hlv
  ihave HbT := (holds_any d i bT (View.set_whole _)).1 $$ HbT
  ihave Hb0 := (holds_any d i b0 (View.set_whole _)).1 $$ Hb0
  ihave Hb1 := (holds_any d i b1 (View.set_whole _)).1 $$ Hb1
  ihave Hb2 := (holds_any d i b2 (View.set_whole _)).1 $$ Hb2
  ihave Hb3 := (holds_any d i b3 (View.set_whole _)).1 $$ Hb3
  ihave Hx := (xAll_halves d i X q).1 $$ Hx
  icases Hx with ⟨Hxl, Hxr⟩
  ihave Hxl := (xAll_halves d i X q.left).1 $$ Hxl
  icases Hxl with ⟨Hx0, Hx1⟩
  ihave Hxr := (xAll_halves d i X q.right).1 $$ Hxr
  icases Hxr with ⟨Hx2, Hx3⟩
  iapply (wp_wand_r frame (wpE (defs₀ (F := F)) 𝒱₀ (thr d i) none) Set.univ)
  isplitr [HRB HRS]
  · iapply (run_spec d i O W X tb f q.left.left q.left.right q.right.left q.right.right q)
    isplitr [Hd]
    · unfold idle
      isplitl [Hb0 Hx0 Hi0 Ho0]
      · iapply (free_eq d i X b0 in0 out0 q.left.left).2
        isplitl [Hb0]; · iexact Hb0
        isplitl [Hx0]; · iexact Hx0
        isplitl [Hi0]; · iexact Hi0
        iexact Ho0
      isplitl [Hb1 Hx1 Hi1 Ho1]
      · iapply (free_eq d i X b1 in1 out1 q.left.right).2
        isplitl [Hb1]; · iexact Hb1
        isplitl [Hx1]; · iexact Hx1
        isplitl [Hi1]; · iexact Hi1
        iexact Ho1
      isplitl [Hb2 Hx2 Hi2 Ho2]
      · iapply (free_eq d i X b2 in2 out2 q.right.left).2
        isplitl [Hb2]; · iexact Hb2
        isplitl [Hx2]; · iexact Hx2
        isplitl [Hi2]; · iexact Hi2
        iexact Ho2
      isplitl [Hb3 Hx3 Hi3 Ho3]
      · iapply (free_eq d i X b3 in3 out3 q.right.right).2
        isplitl [Hb3]; · iexact Hb3
        isplitl [Hx3]; · iexact Hx3
        isplitl [Hi3]; · iexact Hi3
        iexact Ho3
      isplitl [Ht]; · iexact Ht
      isplitl [HbT]; · iexact HbT
      isplitl [Hs]; · iexact Hs
      unfold ow
      isplitr; · iexact Hmw
      iexists W; isplitr
      · ipureintro; exact fun p hp => .inl hp
      · iexact HO
    · isplitl [Hd]; · iexact Hd
      unfold done
      rw [Finset.range_zero, bigSep_empty]
      iempintro
  iintro %r ⟨Hid, Hd⟩
  unfold idle
  icases Hid with ⟨H0, H1, H2, H3, Ht, HbT, Hs, Hw⟩
  ihave H0 := (free_eq d i X b0 in0 out0 q.left.left).1 $$ H0
  icases H0 with ⟨Hb0, Hx0, Hi0, Ho0⟩
  ihave H1 := (free_eq d i X b1 in1 out1 q.left.right).1 $$ H1
  icases H1 with ⟨Hb1, Hx1, Hi1, Ho1⟩
  ihave H2 := (free_eq d i X b2 in2 out2 q.right.left).1 $$ H2
  icases H2 with ⟨Hb2, Hx2, Hi2, Ho2⟩
  ihave H3 := (free_eq d i X b3 in3 out3 q.right.right).1 $$ H3
  icases H3 with ⟨Hb3, Hx3, Hi3, Ho3⟩
  isplitl [Hx0 Hx1 Hx2 Hx3 Ht Hd]
  · isplitl [Hx0 Hx1 Hx2 Hx3]
    · iapply (xAll_halves d i X q).2
      isplitl [Hx0 Hx1]
      · iapply (xAll_halves d i X q.left).2
        isplitl [Hx0]; · iexact Hx0
        iexact Hx1
      · iapply (xAll_halves d i X q.right).2
        isplitl [Hx2]; · iexact Hx2
        iexact Hx3
    isplitl [Ht]; · iexact Ht
    iapply (Entails.of_eq (show (done d i X tb 64 : sProp 𝕄) = todo d i (res X tb) 0 by unfold done todo; rw [Finset.range_eq_Ico]))
    iexact Hd
  isplitl [HbT Hb0 Hb1 Hb2 Hb3 HRB]
  · isplitl [HbT]; · iapply (holds_any d i bT (View.set_whole _)).2; iexact HbT
    isplitl [Hb0]; · iapply (holds_any d i b0 (View.set_whole _)).2; iexact Hb0
    isplitl [Hb1]; · iapply (holds_any d i b1 (View.set_whole _)).2; iexact Hb1
    isplitl [Hb2]; · iapply (holds_any d i b2 (View.set_whole _)).2; iexact Hb2
    isplitl [Hb3]; · iapply (holds_any d i b3 (View.set_whole _)).2; iexact Hb3
    iexact HRB
  isplitl [Hi0 Ho0 Hi1 Ho1 Hi2 Ho2 Hi3 Ho3 Hs HRS]
  · isplitl [Hi0]; · iexact Hi0
    isplitl [Ho0]; · iexact Ho0
    isplitl [Hi1]; · iexact Hi1
    isplitl [Ho1]; · iexact Ho1
    isplitl [Hi2]; · iexact Hi2
    isplitl [Ho2]; · iexact Ho2
    isplitl [Hi3]; · iexact Hi3
    isplitl [Ho3]; · iexact Ho3
    isplitl [Hs]; · iexact Hs
    iexact HRS
  unfold ow
  icases Hw with ⟨-, Hw⟩
  iexact Hw

end Tile

/-! ## The result's blocks -/

/-- The coordinates of tile `s` of SparseCore `c`. -/
def tile (c : Fin 2) (s : Fin 16) : grid0.Coords :=
  fun | 0 => c | 1 => s | ⟨_ + 2, h⟩ => absurd h (Nat.not_lt.2 (Nat.le_add_left _ _))

/-- The elements of block `n` of tile `s` of SparseCore `c`. -/
def blkSet (x : Fin 2 × Fin 16 × ℕ) : Finset S33554432.Idx := (os (tile x.1 x.2.1) x.2.2).view.set

theorem blkSet_eq (x : Fin 2 × Fin 16 × ℕ) :
    blkSet x = (Rect.part (s := S33554432) (a₀ := 0) parts_dvd ⟨blk (tile x.1 x.2.1) x.2.2, blk_lt _ _⟩).set := by
  unfold blkSet
  show ((View.whole (main_v2_scv : Ref sig .scVector)).slice (Rect.unit (s := S33554432) (off _ _) S16384.size (off_inb _ _))).set = _
  rw [View.set_slice, rect_eq_part]
  exact Finset.map_refl

/-- All the blocks of the result: 2 SparseCores by 16 tiles by 64. -/
def allBlks : Finset (Fin 2 × Fin 16 × ℕ) := Finset.univ ×ˢ Finset.univ ×ˢ Finset.Ico 0 64

theorem blk_tile (c : Fin 2) (s : Fin 16) {n : ℕ} (hn : n < 64) : blk (tile c s) n = 64 * (2 * s.val + c.val) + n := by
  unfold blk
  rw [Nat.mod_eq_of_lt hn]
  rfl

theorem blks_disjoint : ∀ x ∈ allBlks, ∀ y ∈ allBlks, x ≠ y → Disjoint (blkSet x) (blkSet y) := by
  rintro ⟨c, s, n⟩ hx ⟨c', s', n'⟩ hy hne
  simp only [allBlks, Finset.mem_product, Finset.mem_univ, true_and, Finset.mem_Ico, Nat.zero_le] at hx hy
  rw [blkSet_eq, blkSet_eq]
  refine Rect.part_disjoint parts_dvd fun e => hne ?_
  have e : blk (tile c s) n = blk (tile c' s') n' := congrArg Fin.val e
  rw [blk_tile c s hx, blk_tile c' s' hy] at e
  have hc := c.isLt
  have hc' := c'.isLt
  obtain rfl : n = n' := by omega
  obtain rfl : s = s' := Fin.ext (by omega)
  obtain rfl : c = c' := Fin.ext (by omega)
  rfl

/-- Part `w` of the array is a block of some tile. -/
theorem part_is_blk (w : Fin 2048) : ∃ x ∈ allBlks, blkSet x = (Rect.part (s := S33554432) (a₀ := 0) parts_dvd w).set := by
  have hw := w.isLt
  refine ⟨(⟨w.val / 64 % 2, by omega⟩, ⟨w.val / 128, by omega⟩, w.val % 64), ?_, ?_⟩
  · simp only [allBlks, Finset.mem_product, Finset.mem_univ, true_and, Finset.mem_Ico, Nat.zero_le]
    omega
  · rw [blkSet_eq]
    have e : (⟨blk (tile ⟨w.val / 64 % 2, by omega⟩ ⟨w.val / 128, by omega⟩) (w.val % 64), blk_lt _ _⟩ : Fin 2048) = w :=
      Fin.ext ((blk_tile _ _ (by omega)).trans (by simp only; omega))
    rw [e]

/-- Where each set of a family that covers a type is a set of a second family, the second family covers it too. -/
theorem cover_of {α β γ : Type} [Fintype β] [DecidableEq β] (S : Finset α) (k : α → Finset β) (k' : γ → Finset β) (hk : ∀ p, ∃ w, p ∈ k' w)
    (h : ∀ w, ∃ x ∈ S, k x = k' w) : S.biUnion k = Finset.univ := by
  refine Finset.eq_univ_iff_forall.mpr fun p => ?_
  obtain ⟨w, hp⟩ := hk p
  obtain ⟨x, hx, e⟩ := h w
  exact Finset.mem_biUnion.mpr ⟨x, hx, e ▸ hp⟩

theorem blks_cover : allBlks.biUnion blkSet = Finset.univ :=
  cover_of allBlks blkSet (fun w : Fin 2048 => (Rect.part (s := S33554432) (a₀ := 0) parts_dvd w).set) (Rect.exists_mem_part parts_dvd) part_is_blk

/-- The result array, owned whole, is every tile's 64 blocks. -/
theorem out_blocks (d : Dev nD) (f : Vec F S33554432 .f32) :
    (((SparseCore.T d : Thread nD τ).loc main_v2 ↦{fullShare} f : sProp 𝕄))
      = bigSep Finset.univ fun c : Fin 2 => bigSep Finset.univ fun s : Fin 16 => todo d (tile c s) f 0 := by
  have h := pointsTo_biUnion (Ix := HIx 1) (Val := Elt F) (Name := ℕ) (U := UU) (Lvl := ℕ) (q := fullShare) (f := f) allBlks
    (ℓ := (SparseCore.T d : Thread nD τ).loc main_v2) blkSet blks_disjoint
  rw [blks_cover] at h
  refine h.trans ?_
  unfold allBlks
  rw [SparseCore.bigSep_product]
  refine bigSep_congr fun c _ => ?_
  rw [SparseCore.bigSep_product]
  rfl

end Cert.Proof.PosAdd
-- ==== Proof.Launch.lean ====
/-
  The kernel program's run, over any float values: the launch's handshakes, the split of a SparseCore's arrays to its 16
  tiles and of the call's to the 2 SparseCores, the operations of `main` around the call, and what the run ends with: the
  arguments as they were, the result the reshaped sum, every semaphore at zero.
-/
module

public import proofs.«01_k».proof.Defs
public import proofs.«01_k».proof.Proof.Gen.Kernel
public import proofs.«01_k».proof.Proof.Gen.ReferenceIdeal
public import proofs.«01_k».proof.Proof.Task

@[expose] public section

noncomputable section

namespace Cert.Proof.PosAdd

open Idealize.ShloMosaic.ShareLeaves (leaf pointsTo_leaves)
open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable [FloatOps F]

-- the three arrays in HBM as a tile addresses them, the table's buffer, and the ring's four buffers and their semaphores
local notation "xW" => (Memref.whole Cert.KernelIdeal.main_v0_scv : Memref Cert.KernelIdeal.sig Kind.scVector Space.hbm Cert.KernelIdeal.S33554432 EltTy.f32)
local notation "tW" => (Memref.whole Cert.KernelIdeal.main_v1_scv : Memref Cert.KernelIdeal.sig Kind.scVector Space.hbm Cert.KernelIdeal.S16384 EltTy.f32)
local notation "oW" => (Memref.whole Cert.KernelIdeal.main_v2_scv : Memref Cert.KernelIdeal.sig Kind.scVector Space.hbm Cert.KernelIdeal.S33554432 EltTy.f32)
local notation "bT" => (Memref.whole Cert.KernelIdeal.cc0_scratch0 : Memref Cert.KernelIdeal.sig Kind.scVector Space.vmem Cert.KernelIdeal.S16384 EltTy.f32)
local notation "b0" => (Memref.whole Cert.KernelIdeal.cc0_scratch1 : Memref Cert.KernelIdeal.sig Kind.scVector Space.vmem Cert.KernelIdeal.S16384 EltTy.f32)
local notation "b1" => (Memref.whole Cert.KernelIdeal.cc0_scratch2 : Memref Cert.KernelIdeal.sig Kind.scVector Space.vmem Cert.KernelIdeal.S16384 EltTy.f32)
local notation "b2" => (Memref.whole Cert.KernelIdeal.cc0_scratch3 : Memref Cert.KernelIdeal.sig Kind.scVector Space.vmem Cert.KernelIdeal.S16384 EltTy.f32)
local notation "b3" => (Memref.whole Cert.KernelIdeal.cc0_scratch4 : Memref Cert.KernelIdeal.sig Kind.scVector Space.vmem Cert.KernelIdeal.S16384 EltTy.f32)

/-! ## The launch memory and the values -/

variable (m : (ℓ : Loc nD τ sig) → Buf (Elt F) ℓ) (ρ : Dev nD → PrngReg)

/-- Where device `d` keeps the array that the TensorCore names `b`. -/
abbrev at' (d : Dev nD) (b : Ref sig .tc) : Loc nD τ sig := (SparseCore.T d : Thread nD τ).loc b

/-- `x` laid out flat. -/
def Xf (d : Dev nD) : Vec F S33554432 .f32 := shapeCast S33554432 (m (at' d main_arg0) : Vec F S4x8192x1024 .f32) shapeCasts_S4x8192x1024_S33554432
/-- The table laid out flat. -/
def Tf (d : Dev nD) : Vec F S16384 .f32 := shapeCast S16384 (m (at' d main_arg1) : Vec F S16x1024 .f32) shapeCasts_S16x1024_S16384
/-- The result. -/
def Rf (d : Dev nD) : Vec F S4x8192x1024 .f32 := shapeCast S4x8192x1024 (res (Xf m d) (Tf m d)) shapeCasts_S33554432_S4x8192x1024

/-! ## What the handshakes carry -/

/-- The share of the two read arrays that SparseCore `c` has, and that its tile `s` has. -/
abbrev qCore (c : Fin 2) : PosShare TreeShare := leaf 1 fullShare c
abbrev qTile (c : Fin 2) (s : Fin 16) : PosShare TreeShare := leaf 4 (qCore c) s

/-- What SparseCore `c` gets and gives back: shares of `x` and of the table, and its tiles' blocks of the result at `f`. -/
def coreHas (d : Dev nD) (c : Fin 2) (f : Vec F S33554432 .f32) : sProp 𝕄 :=
  iprop((at' d main_v0 ↦{qCore c} Xf m d) ∗ (at' d main_v1 ↦{qCore c} Tf m d) ∗ bigSep Finset.univ fun s : Fin 16 => todo d (tile c s) f 0)
/-- What tile `s` of SparseCore `c` gets and gives back. -/
def tileHas (d : Dev nD) (c : Fin 2) (s : Fin 16) (f : Vec F S33554432 .f32) : sProp 𝕄 :=
  iprop(xAll d (tile c s) (Xf m d) (qTile c s) ∗ tabAll d (tile c s) (Tf m d) (qTile c s) ∗ todo d (tile c s) f 0)

/-- The result's contents before the call, and after it. -/
abbrev before (d : Dev nD) : Vec F S33554432 .f32 := m (at' d main_v2)
abbrev after (d : Dev nD) : Vec F S33554432 .f32 := res (Xf m d) (Tf m d)

instance coreHas_storable (d : Dev nD) (c : Fin 2) (f : Vec F S33554432 .f32) : BI.Storable (upEmb : UEmb _ 𝕄) (coreHas m d c f) := by
  unfold coreHas todo oBlk; infer_instance
instance tileHas_storable (d : Dev nD) (c : Fin 2) (s : Fin 16) (f : Vec F S33554432 .f32) : BI.Storable (upEmb : UEmb _ 𝕄) (tileHas m d c s f) := by
  unfold tileHas xAll tabAll todo oBlk; infer_instance

theorem nCore_zero : (K (F := F)).nCore 0 = 2 := rfl
theorem nSub_zero : (K (F := F)).nSub 0 = 16 := rfl

def P : (K (F := F)).Pay (nD := nD) (Val := Elt F) (Name := ℕ) (U := UU) where
  st := fun q d c => match q with | 0 => coreHas m d (Fin.cast nCore_zero c) (before m d)
  dn := fun q d c => match q with | 0 => coreHas m d (Fin.cast nCore_zero c) (after m d)
  go := fun q d c s => match q with | 0 => tileHas m d (Fin.cast nCore_zero c) (Fin.cast nSub_zero s) (before m d)
  td := fun q d c s => match q with | 0 => tileHas m d (Fin.cast nCore_zero c) (Fin.cast nSub_zero s) (after m d)
  x := fun _ _ => iprop(emp)

instance P_storable : (P (F := F) m).IsStorable where
  st q d c := match q with | 0 => coreHas_storable m d (Fin.cast nCore_zero c) (before m d)
  dn q d c := match q with | 0 => coreHas_storable m d (Fin.cast nCore_zero c) (after m d)
  go q d c s := match q with | 0 => tileHas_storable m d (Fin.cast nCore_zero c) (Fin.cast nSub_zero s) (before m d)
  td q d c s := match q with | 0 => tileHas_storable m d (Fin.cast nCore_zero c) (Fin.cast nSub_zero s) (after m d)

/-! ## The launch theorem's obligations -/

theorem defs₀_vector (c : Fin τ.nSC) (s : Fin τ.nSub) :
    defs₀ (F := F) (.scVector c s) 0 ()
      = SparseCore.onTile hcore0 hsub0 (fun c s => cc0_run (tile c s) xW (Memref.isWhole_whole _) tW (Memref.isWhole_whole _) oW (Memref.isWhole_whole _) bT (Memref.isWhole_whole _)
          b0 (Memref.isWhole_whole _) b1 (Memref.isWhole_whole _) b2 (Memref.isWhole_whole _) b3 (Memref.isWhole_whole _)
          cc0_scratch5 cc0_scratch6 cc0_scoped0) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) : (K (F := F)).TileObl (D (F := F)) 𝒱 (P m) v₀ 0 := by
  intro d c s O W hO _ _
  simp only [show (P m).ox = fun _ _ => 0 from rfl, add_zero]
  have hci : ((K (F := F)).core 0 c).val < grid0.bound 0 ∧ ((K (F := F)).sub 0 s).val < grid0.bound 1 := ⟨c.isLt, s.isLt⟩
  change _ ⊢ wp _ _ _ (Pipeline.liftProg (defs₀ (F := F) (.scVector ((K (F := F)).core 0 c) ((K (F := F)).sub 0 s)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (tile ⟨_, hci.1⟩ ⟨_, hci.2⟩) (Xf m d) (Tf m d) (before m d) hF (qTile ⟨_, hci.1⟩ ⟨_, hci.2⟩) O W hO).trans
    (wp_mono frame _ _ fun _ => obl_post)

/-- An array at a share is the array at each of the share's `2 ^ n` parts. -/
theorem shares (ℓ : Loc nD τ sig) (f : Buf (Elt F) ℓ) (n : ℕ) (q : PosShare TreeShare) :
    (ℓ ↦{q} f : sProp 𝕄) = bigSep Finset.univ fun i : Fin (2 ^ n) => ℓ ↦{leaf n q i} f :=
  pointsTo_leaves Finset.univ f n q

/-- A tile's share of the table is the TensorCore's array at that share. -/
theorem tabAll_eq (d : Dev nD) (i : grid0.Coords) (tb : Vec F S16384 .f32) (q : PosShare TreeShare) :
    (tabAll d i tb q : sProp 𝕄) = at' d main_v1 ↦{q} tb := by
  unfold tabAll
  rw [show (tW).view.set = Finset.univ from View.set_whole _]

/-- A SparseCore's arrays are its tiles'. -/
theorem coreHas_tiles (d : Dev nD) (c : Fin 2) (f : Vec F S33554432 .f32) :
    (coreHas m d c f : sProp 𝕄) = bigSep Finset.univ fun s : Fin 16 => tileHas m d c s f := by
  unfold coreHas tileHas
  simp only [tabAll_eq]
  rw [bigSep_sep', bigSep_sep', shares (at' d main_v0) (Xf m d) 4, shares (at' d main_v1) (Tf m d) 4]
  rfl

theorem vecSplit : (K (F := F)).VecSplit' (P m) 0 := by
  intro d c
  show coreHas m d (Fin.cast nCore_zero c) (before m d) ⊢ |={Set.univ}=> iprop(
      (bigSep Finset.univ fun s : Fin ((K (F := F)).nSub 0) => tileHas m d (Fin.cast nCore_zero c) (Fin.cast nSub_zero s) (before m d))
      ∗ ((bigSep Finset.univ fun s : Fin ((K (F := F)).nSub 0) => tileHas m d (Fin.cast nCore_zero c) (Fin.cast nSub_zero s) (after m d))
          -∗ coreHas m d (Fin.cast nCore_zero c) (after m d)))
  iintro H; imodintro
  isplitl [H]
  · iapply (Entails.of_eq (coreHas_tiles m d (Fin.cast nCore_zero c) (before m d))); iexact H
  iintro H
  iapply (Entails.of_eq (coreHas_tiles m d (Fin.cast nCore_zero c) (after m d)).symm); iexact H

/-- The launch's ghost state: the handshakes' rounds; the transfers' counters begin at the unit. -/
def u₀ : UU := (initOf (K (F := F)).hsCells (K (F := F)).hsToks, 1)

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## `main` on the TensorCore -/

abbrev opX : HloOp τ sig (Elt F) := StableHlo.reshape main_arg0 main_v0 (rfl : (.f32 : EltTy) = .f32) shapeCasts_S4x8192x1024_S33554432
abbrev opT : HloOp τ sig (Elt F) := StableHlo.reshape main_arg1 main_v1 (rfl : (.f32 : EltTy) = .f32) shapeCasts_S16x1024_S16384
abbrev opR : HloOp τ sig (Elt F) := StableHlo.reshape main_v2 main_v3 (rfl : (.f32 : EltTy) = .f32) shapeCasts_S33554432_S4x8192x1024

/-- An array of the TensorCore's as the device names it. -/
abbrev dref (b : Ref sig .tc) : DevRef τ sig := Proc.devRef .tc b
/-- The six arrays of `main`. -/
def S6 : Finset (DevRef τ sig) := {dref main_arg0, dref main_arg1, dref main_v0, dref main_v1, dref main_v2, dref main_v3}

theorem held_S6 (d : Dev nD) (W : Valuation τ sig (Elt F)) :
    (held (T d) S6 W : sProp 𝕄)
      = iprop((at' d main_arg0 ↦{fullShare} W (dref main_arg0)) ∗ (at' d main_arg1 ↦{fullShare} W (dref main_arg1)) ∗ (at' d main_v0 ↦{fullShare} W (dref main_v0))
          ∗ (at' d main_v1 ↦{fullShare} W (dref main_v1)) ∗ (at' d main_v2 ↦{fullShare} W (dref main_v2)) ∗ at' d main_v3 ↦{fullShare} W (dref main_v3)) := by
  unfold held S6
  rw [SparseCore.bigSep_insert' (by decide), SparseCore.bigSep_insert' (by decide), SparseCore.bigSep_insert' (by decide),
    SparseCore.bigSep_insert' (by decide), SparseCore.bigSep_insert' (by decide), bigSep_singleton]

theorem unscopedBufs_eq (d : Dev nD) (W : (b : Ref sig .tc) → Buf (Elt F) ((d.tc : Thread nD τ).loc b)) :
    (unscopedBufs d W : sProp 𝕄)
      = iprop((at' d main_arg0 ↦{fullShare} W main_arg0) ∗ (at' d main_arg1 ↦{fullShare} W main_arg1) ∗ (at' d main_v0 ↦{fullShare} W main_v0)
          ∗ (at' d main_v1 ↦{fullShare} W main_v1) ∗ (at' d main_v2 ↦{fullShare} W main_v2) ∗ at' d main_v3 ↦{fullShare} W main_v3) := by
  unfold unscopedBufs
  rw [show (Finset.univ.filter fun b : Ref sig .tc => ¬ b.isScoped) = {main_arg0, main_arg1, main_v0, main_v1, main_v2, main_v3} by decide,
    SparseCore.bigSep_insert' (by decide), SparseCore.bigSep_insert' (by decide), SparseCore.bigSep_insert' (by decide),
    SparseCore.bigSep_insert' (by decide), SparseCore.bigSep_insert' (by decide), bigSep_singleton]

/-- The arrays' contents at launch, before the call, and after it. -/
def V0 (d : Dev nD) : Valuation τ sig (Elt F) := fun b => m (d, b)
def V2 (d : Dev nD) : Valuation τ sig (Elt F) := (opT (F := F)).result ((opX (F := F)).result (V0 m d))
def V3 (d : Dev nD) : Valuation τ sig (Elt F) := Function.update (V2 m d) (dref main_v2) (after m d)

theorem unscoped_held (d : Dev nD) : (unscopedBufs d (fun b => m ((SparseCore.T d).loc b)) : sProp 𝕄) = held (T d) S6 (V0 m d) := by
  rw [unscopedBufs_eq, held_S6]; rfl

theorem opX_ne (V : Valuation τ sig (Elt F)) {b : DevRef τ sig} (h : b ≠ dref main_v0) : (opX (F := F)).result V b = V b :=
  (opX (F := F)).result_of_not_mem V (show b ∉ ({dref main_v0} : Finset (DevRef τ sig)) from fun e => h (Finset.mem_singleton.mp e))
theorem opT_ne (V : Valuation τ sig (Elt F)) {b : DevRef τ sig} (h : b ≠ dref main_v1) : (opT (F := F)).result V b = V b :=
  (opT (F := F)).result_of_not_mem V (show b ∉ ({dref main_v1} : Finset (DevRef τ sig)) from fun e => h (Finset.mem_singleton.mp e))
theorem opR_ne (V : Valuation τ sig (Elt F)) {b : DevRef τ sig} (h : b ≠ dref main_v3) : (opR (F := F)).result V b = V b :=
  (opR (F := F)).result_of_not_mem V (show b ∉ ({dref main_v3} : Finset (DevRef τ sig)) from fun e => h (Finset.mem_singleton.mp e))

/-- An array that neither reshape before the call writes is as at launch. -/
theorem V2_ne (d : Dev nD) {b : DevRef τ sig} (h : b ≠ dref main_v0) (h' : b ≠ dref main_v1) : V2 m d b = m (d, b) := by
  unfold V2
  rw [opT_ne _ h', opX_ne _ h]
  rfl
theorem V2_x (d : Dev nD) : V2 m d (dref main_v0) = Xf m d := by
  unfold V2
  rw [opT_ne _ (by decide)]
  exact StableHlo.reshape_result _ _ _ _ _ _ _
theorem V2_t (d : Dev nD) : V2 m d (dref main_v1) = Tf m d := by
  unfold V2
  refine (StableHlo.reshape_result _ _ _ _ _ _ _).trans ?_
  rw [opX_ne _ (by decide)]
  rfl
theorem V3_ne (d : Dev nD) {b : DevRef τ sig} (h : b ≠ dref main_v2) : V3 m d b = V2 m d b := Function.update_of_ne h _ _
theorem V3_o (d : Dev nD) : V3 m d (dref main_v2) = after m d := Function.update_self _ _ _

/-- The six arrays before the call. -/
theorem held_V2 (d : Dev nD) :
    (held (T d) S6 ((opT (F := F)).result ((opX (F := F)).result (V0 m d))) : sProp 𝕄)
      = iprop((at' d main_arg0 ↦{fullShare} m (at' d main_arg0)) ∗ (at' d main_arg1 ↦{fullShare} m (at' d main_arg1)) ∗ (at' d main_v0 ↦{fullShare} Xf m d)
          ∗ (at' d main_v1 ↦{fullShare} Tf m d) ∗ (at' d main_v2 ↦{fullShare} before m d) ∗ at' d main_v3 ↦{fullShare} m (at' d main_v3)) := by
  show held (T d) S6 (V2 m d) = _
  rw [held_S6, V2_x, V2_t, V2_ne m d (by decide) (by decide), V2_ne m d (by decide) (by decide), V2_ne m d (by decide) (by decide), V2_ne m d (by decide) (by decide)]
/-- The six arrays after the call. -/
theorem held_V3 (d : Dev nD) :
    (held (T d) S6 (V3 m d) : sProp 𝕄)
      = iprop((at' d main_arg0 ↦{fullShare} m (at' d main_arg0)) ∗ (at' d main_arg1 ↦{fullShare} m (at' d main_arg1)) ∗ (at' d main_v0 ↦{fullShare} Xf m d)
          ∗ (at' d main_v1 ↦{fullShare} Tf m d) ∗ (at' d main_v2 ↦{fullShare} after m d) ∗ at' d main_v3 ↦{fullShare} m (at' d main_v3)) := by
  rw [held_S6, V3_o, V3_ne m d (by decide), V3_ne m d (by decide), V3_ne m d (by decide), V3_ne m d (by decide), V3_ne m d (by decide),
    V2_x, V2_t, V2_ne m d (by decide) (by decide), V2_ne m d (by decide) (by decide), V2_ne m d (by decide) (by decide)]
/-- The six arrays at the end. -/
theorem held_V4 (d : Dev nD) :
    (held (T d) S6 ((opR (F := F)).result (V3 m d)) : sProp 𝕄)
      = iprop((at' d main_arg0 ↦{fullShare} m (at' d main_arg0)) ∗ (at' d main_arg1 ↦{fullShare} m (at' d main_arg1)) ∗ (at' d main_v0 ↦{fullShare} Xf m d)
          ∗ (at' d main_v1 ↦{fullShare} Tf m d) ∗ (at' d main_v2 ↦{fullShare} after m d) ∗ at' d main_v3 ↦{fullShare} Rf m d) := by
  rw [held_S6, opR_ne _ (by decide), opR_ne _ (by decide), opR_ne _ (by decide), opR_ne _ (by decide), opR_ne _ (by decide),
    V3_o, V3_ne m d (by decide), V3_ne m d (by decide), V3_ne m d (by decide), V3_ne m d (by decide),
    V2_x, V2_t, V2_ne m d (by decide) (by decide), V2_ne m d (by decide) (by decide),
    show (opR (F := F)).result (V3 m d) (dref main_v3) = Rf m d from
      (StableHlo.reshape_result _ _ _ _ _ _ _).trans (by rw [V3_o]; rfl)]

/-- The call's three arrays are the two SparseCores'. -/
theorem cores_eq (d : Dev nD) (f : Vec F S33554432 .f32) :
    (bigSep Finset.univ fun c : Fin 2 => (coreHas m d c f : sProp 𝕄))
      = iprop((at' d main_v0 ↦{fullShare} Xf m d) ∗ (at' d main_v1 ↦{fullShare} Tf m d) ∗ (at' d main_v2 ↦{fullShare} f)) := by
  unfold coreHas
  rw [bigSep_sep', bigSep_sep', out_blocks, shares (at' d main_v0) (Xf m d) 1, shares (at' d main_v1) (Tf m d) 1]
  rfl

theorem st0_eq (d : Dev nD) : (bigSep Finset.univ fun c : Fin ((K (F := F)).nCore 0) => (P m).st 0 d c)
    = iprop((at' d main_v0 ↦{fullShare} Xf m d) ∗ (at' d main_v1 ↦{fullShare} Tf m d) ∗ (at' d main_v2 ↦{fullShare} before m d)) :=
  cores_eq m d (before m d)
theorem dn0_eq (d : Dev nD) : (bigSep Finset.univ fun c : Fin ((K (F := F)).nCore 0) => (P m).dn 0 d c)
    = iprop((at' d main_v0 ↦{fullShare} Xf m d) ∗ (at' d main_v1 ↦{fullShare} Tf m d) ∗ (at' d main_v2 ↦{fullShare} after m d)) :=
  cores_eq m d (after m d)

theorem hX : (opX (F := F)).bufs ⊆ S6 := show ({dref main_arg0, dref main_v0} : Finset (DevRef τ sig)) ⊆ S6 by decide
theorem hT : (opT (F := F)).bufs ⊆ S6 := show ({dref main_arg1, dref main_v1} : Finset (DevRef τ sig)) ⊆ S6 by decide
theorem hR : (opR (F := F)).bufs ⊆ S6 := show ({dref main_v2, dref main_v3} : Finset (DevRef τ sig)) ⊆ S6 by decide

/-- What `main` leaves: the arguments as at launch, and the result. -/
abbrev FIN (d : Dev nD) : sProp 𝕄 :=
  iprop((at' d main_arg0 ↦{fullShare} m (at' d main_arg0)) ∗ (at' d main_arg1 ↦{fullShare} m (at' d main_arg1)) ∗ (at' d main_v3 ↦{fullShare} Rf m d))

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := opX) (S := S6) hX (V := V0 m d)) $$ [Hb Hheld]
  · isplitl [Hb] <;> iassumption
  iintro ⟨Hb, Hheld⟩
  rw [wp_ret]; imodintro
  iapply (wp_hlo_within 𝒱 (SparseCore.T d) none Set.univ (op := opT) (S := S6) hT (V := (opX (F := F)).result (V0 m d))) $$ [Hb Hheld]
  · isplitl [Hb] <;> iassumption
  iintro ⟨Hb, Hheld⟩
  rw [wp_ret]; imodintro
  ihave Hh := (Entails.of_eq (held_V2 (F := F) m d)) $$ Hheld
  icases Hh with ⟨Ha, Hc, Hx, Ht, Ho, Hr⟩
  iapply ((K (F := F)).wp_run (D (F := F)) 𝒱 (EH := EH) (P := P m) κ d 0) $$ [Hst Ha Hc Hx Ht Ho Hr Hb Hts]
  isplitr; · iexact Hctx
  isplitl [Hst]; · iexact Hst
  isplitl [Hx Ht Ho]
  · rw [st0_eq]
    isplitl [Hx]; · iexact Hx
    isplitl [Ht]; · iexact Ht
    iexact Ho
  iintro ⟨Hst, Hdn⟩
  ihave Hdn' := (Entails.of_eq (dn0_eq m d)) $$ Hdn
  icases Hdn' with ⟨Hx, Ht, Ho⟩
  iapply (wp_hlo_within 𝒱 (SparseCore.T d) none Set.univ (op := opR) (S := S6) hR (V := V3 m d)) $$ [Hb Ha Hc Hx Ht Ho Hr]
  · isplitl [Hb]; · iexact Hb
    rw [held_V3]
    isplitl [Ha]; · iexact Ha
    isplitl [Hc]; · iexact Hc
    isplitl [Hx]; · iexact Hx
    isplitl [Ht]; · iexact Ht
    isplitl [Ho]; · iexact Ho
    iexact Hr
  iintro ⟨Hb, Hheld⟩
  ihave Hh := (Entails.of_eq (held_V4 (F := F) m d)) $$ Hheld
  icases Hh with ⟨Ha, Hc, -, -, -, Hr⟩
  rw [wp_ret]; imodintro; imodintro
  isplitl [Hst]; · iexact Hst
  isplitr [Hb Hts]
  · isplitl [Ha]; · iexact Ha
    isplitl [Hc]; · iexact Hc
    iexact Hr
  isplitl [Hb] <;> iassumption

/-- What the claims read of device `d`'s final state. -/
def fq (d : Dev nD) (s' : Phys nD τ sig (Elt F)) : Prop :=
  s'.mem.mem (at' d main_v3) = Rf m d ∧ s'.mem.mem (at' d main_arg0) = m (at' d main_arg0) ∧ s'.mem.mem (at' d main_arg1) = m (at' d main_arg1)

set_option maxRecDepth 16384 in
theorem hfin (d : Dev nD) (s' : Phys nD τ sig (Elt F)) : iprop(FIN m d ∗ SI s') ⊢ (⌜fq m d s'⌝ : sProp 𝕄) := by
  iintro ⟨⟨Ha, Hc, Hr⟩, HSI⟩
  ihave H := (persistent_entails_right (SI_pointsTo_agree (st := s') (ℓ := at' d main_arg0) (I := Finset.univ) (q := fullShare) (f := m (at' d main_arg0)))) $$ [HSI Ha]
  · isplitl [HSI] <;> iassumption
  icases H with ⟨%h1, HSI, -⟩
  ihave H := (persistent_entails_right (SI_pointsTo_agree (st := s') (ℓ := at' d main_arg1) (I := Finset.univ) (q := fullShare) (f := m (at' d main_arg1)))) $$ [HSI Hc]
  · isplitl [HSI] <;> iassumption
  icases H with ⟨%h2, HSI, -⟩
  ihave H := (SI_pointsTo_agree (st := s') (ℓ := at' d main_v3) (I := Finset.univ) (q := fullShare) (f := Rf m d)) $$ [HSI Hr]
  · isplitl [HSI] <;> iassumption
  icases H with %h3
  ipureintro; exact ⟨funext fun i => h3 i (Finset.mem_univ i), funext fun i => h1 i (Finset.mem_univ i), funext fun i => h2 i (Finset.mem_univ i)⟩

/-! ## The program's run -/

/-- What the run ends with: the result, the arguments as at launch, and every semaphore at zero. -/
def QC : PUnit × MemSt nD τ sig (Elt F) → Prop := fun r =>
  (∀ c : Dev nD, r.2.mem (at' c main_v3) = Rf m c ∧ r.2.mem (at' c main_arg0) = m (at' c main_arg0) ∧ r.2.mem (at' c main_arg1) = m (at' c main_arg1)) ∧ r.2.sem = fun _ => 0

theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

/-! ## The two frames -/

/-- The kernel program runs; its arguments end unchanged, its semaphores at zero. -/
theorem frame_ideal : Cert.quiescent_KernelIdeal := fun m ρ _ =>
  (θ_run Cert.KernelIdeal.defs _ _).mono (fun _ h => ⟨fun c => (h.1 c).2, h.2⟩) (run_main (F := Ideal) m ρ)

/-- The same of the program at the machine's floats, whose text is the same. -/
theorem frame_kernel : Cert.quiescent_Kernel := fun m ρ _ =>
  (θ_run Cert.KernelIdeal.defs _ _).mono (fun _ h => ⟨fun c => (h.1 c).2, h.2⟩) (run_main (F := Bits) m ρ)

end Cert.Proof.PosAdd
-- ==== Proof.Reference.lean ====
/-
  What the reference computes, over any float values: the table's rows taken at 0 … 15 are the table itself, the tiling
  reads row `r mod 16` of it at row `r`, and the program adds that to `x`. Then the reference's frame.
-/
module

public import proofs.«01_k».proof.Defs
public import proofs.«01_k».proof.Proof.Gen.ReferenceIdeal
public import proofs.«01_k».proof.Proof.Gen.ReferenceIdeal.Run
public import Idealize.ShloMosaic.Lib.ReduceAll
public import Idealize.ShloMosaic.Lib.ValueIdxCore
public import Idealize.ShloMosaic.Lib.ValueIdxRank6
public import Idealize.ShloMosaic.Lib.Pipeline.Value

@[expose] public section

noncomputable section

namespace Cert.Proof.PosAdd.Ref

open Cert.ReferenceIdeal Cert.ReferenceIdeal.Gen
open Idealize.ShloMosaic Idealize.ShloMosaic.TcCoe Idealize.ShloMosaic.ValueIdx Idealize.SL.Sem

variable {F : FTy → Type} [FloatOps F]

/-! ## The rows that are taken -/

/-- The row numbers, each negative one moved up by 16. -/
def rows : IVec S16 32 :=
  select (cmpi .slt (iotaInDim S16 32 0) (broadcastInDim S16 ![] bcast_S_S16 (constantI S_ 32 0#32)))
    (addi (iotaInDim S16 32 0) (broadcastInDim S16 ![] bcast_S_S16 (constantI S_ 32 16#32))) (iotaInDim S16 32 0)

/-- None is negative: the row number at `k` is `k`. -/
theorem rows_apply (j : S16.Idx) : rows j = BitVec.ofNat 32 (j 0).val := by
  have h : ∀ k : Fin 16, Scalar.select (IntOp.cmpi .slt (BitVec.ofNat 32 k.val) 0#32) (BitVec.ofNat 32 k.val + 16#32) (BitVec.ofNat 32 k.val)
      = BitVec.ofNat 32 k.val := by decide
  exact h (j 0)

/-- The row numbers as a column. -/
abbrev col : IVec S16x1 32 := broadcastInDim S16x1 ![0] bcast_S16_S16x1_0 rows

theorem col_apply (j : S16x1.Idx) : col j = BitVec.ofNat 32 (j 0).val := by
  refine (broadcastInDim_apply _ _ _ j (ix1 (j 0)) ?_).trans (rows_apply _)
  intro a; match a with | ⟨0, _⟩ => rfl

/-- Which rows are in range. -/
def inRange : IVec S16 1 :=
  Host.reduce IntOp.andi (andi (cmpi .sge col (broadcastInDim S16x1 ![] bcast_S_S16x1 (constantI S_ 32 0#32)))
    (cmpi .sle col (broadcastInDim S16x1 ![0, 1] bcast_S1x1_S16x1_0_1 (broadcastInDim S1x1 ![1] bcast_S1_S1x1_1 (constantI S1 32 15#32)))))
    (constantI S_ 1 1#1) reducesTo_S16x1_S16_d1 h_S_

/-- All of them are. -/
theorem inRange_apply (j : S16.Idx) : inRange j = 1#1 := by
  refine Host.reduce_andi_one _ _ _ _ j rfl fun i => ?_
  have h : ∀ k : Fin 16, IntOp.andi (IntOp.cmpi .sge (BitVec.ofNat 32 k.val) 0#32) (IntOp.cmpi .sle (BitVec.ofNat 32 k.val) 15#32) = 1#1 := by decide
  show IntOp.andi (IntOp.cmpi .sge (col i) 0#32) (IntOp.cmpi .sle (col i) 15#32) = 1#1
  rw [col_apply]
  exact h (i 0)

/-- The gather of whole rows: row `k` of the result is the row of the table whose number stands at `k`, here `k` itself. -/
theorem gather_rows (E : FVec F S16x1024 .f32) (y : S16x1024.Idx) :
    Host.gather gather_S16x1024_S16x1_S16x1024_1_0_n_n_0_1_11024 E col y = E y := by
  unfold Host.gather
  refine congrArg E (funext fun a => Fin.ext ?_)
  show (gather_S16x1024_S16x1_S16x1024_1_0_n_n_0_1_11024).start y col a + (gather_S16x1024_S16x1_S16x1024_1_0_n_n_0_1_11024).batchCoord y a
      + (gather_S16x1024_S16x1_S16x1024_1_0_n_n_0_1_11024).offCoord y a = (y a).val
  rw [GatherDims.batchCoord_eq_zero _ _ _ List.not_mem_nil, Nat.add_zero]
  match a with
  | 0 =>
    rw [GatherDims.offCoord_eq_zero _ _ _ (fun h => ((GatherDims.mem_sKept _ _).mp h).1 (List.mem_singleton.mpr rfl)), Nat.add_zero]
    unfold GatherDims.start
    rw [dif_pos (show (0 : Fin 2) ∈ (gather_S16x1024_S16x1_S16x1024_1_0_n_n_0_1_11024).startIndexMap from List.mem_singleton.mpr rfl), col_apply]
    have h : ∀ k : Fin 16, min (BitVec.ofNat 32 k.val).toInt.toNat (16 - 1) = k.val := by decide
    exact h (y 0)
  | 1 =>
    have hs : (gather_S16x1024_S16x1_S16x1024_1_0_n_n_0_1_11024).start y col 1 = 0 := by
      unfold GatherDims.start
      exact dif_neg (show ¬(1 : Fin 2) ∈ [(0 : Fin 2)] by decide)
    rw [hs, Nat.zero_add]
    unfold GatherDims.offCoord
    rw [dif_pos ((GatherDims.mem_sKept _ _).mpr ⟨(show ¬(1 : Fin 2) ∈ [(0 : Fin 2)] by decide), List.not_mem_nil⟩)]
    rfl

/-- The rows taken from the table. -/
def taken (E : FVec F S16x1024 .f32) : FVec F S16x1024 .f32 :=
  select (broadcastInDim S16x1024 ![0] bcast_S16_S16x1024_0 inRange)
    (Host.gather gather_S16x1024_S16x1_S16x1024_1_0_n_n_0_1_11024 E col)
    (broadcastInDim S16x1024 ![] bcast_S_S16x1024 (constant S_ .f32 0x7FC00000#32))

/-- They are the table. -/
theorem taken_eq (E : FVec F S16x1024 .f32) : taken E = E := by
  funext y
  unfold taken
  have h : broadcastInDim S16x1024 ![0] bcast_S16_S16x1024_0 inRange y = 1#1 :=
    (broadcastInDim_apply _ _ _ y (ix1 (y 0)) (fun a => match a with | ⟨0, _⟩ => rfl)).trans (inRange_apply _)
  rw [select_apply, h, select_one]
  exact gather_rows E y

/-! ## The tiling -/

/-- The 16 rows repeated down the 8192 rows of each batch element. -/
def tiled (E : FVec F S16x1024 .f32) : FVec F S4x8192x1024 .f32 :=
  broadcastInDim S4x8192x1024 ![0, 1, 2] bcast_S1x8192x1024_S4x8192x1024_0_1_2
    (shapeCast _ (broadcastInDim S1x1x512x16x1x1024 ![0, 1, 2, 3, 4, 5] bcast_S1x1x1x16x1x1024_S1x1x512x16x1x1024_0_1_2_3_4_5
      (shapeCast _ (shapeCast _ (broadcastInDim S16x1x1024 ![0, 2] bcast_S16x1024_S16x1x1024_0_2 E) shapeCasts_S16x1x1024_S1x16x1024)
        shapeCasts_S1x16x1024_S1x1x1x16x1x1024)) shapeCasts_S1x1x512x16x1x1024_S1x8192x1024)

/-- Row `r` of it is row `r mod 16` of the table. -/
theorem tiled_apply (E : FVec F S16x1024 .f32) (b : Fin 4) (r : Fin 8192) (c : Fin 1024) :
    tiled E (ix3 b r c) = E (ix2 ⟨r.val % 16, Nat.mod_lt _ (by decide)⟩ c) := by
  unfold tiled
  have hq : r.val / 16 < 512 := by have := r.isLt; omega
  have hr : r.val % 16 < 16 := Nat.mod_lt _ (by decide)
  rw [broadcastInDim_apply _ _ _ (ix3 b r c) (ix3 (0 : Fin 1) r c)
      (fun a => match a with | ⟨0, _⟩ => rfl | ⟨1, _⟩ => rfl | ⟨2, _⟩ => rfl),
    shapeCast_apply _ _ (ix3 (0 : Fin 1) r c) (ix6 (0 : Fin 1) (0 : Fin 1) (⟨r.val / 16, hq⟩ : Fin 512) (⟨r.val % 16, hr⟩ : Fin 16) (0 : Fin 1) c)
      (by
        rw [Shape.rowMajor_val_six, Shape.rowMajor_val_three]
        show ((((0 * 1 + 0) * 512 + r.val / 16) * 16 + r.val % 16) * 1 + 0) * 1024 + c.val = (0 * 8192 + r.val) * 1024 + c.val
        omega),
    broadcastInDim_apply _ _ _ _ (ix6 (0 : Fin 1) (0 : Fin 1) (0 : Fin 1) (⟨r.val % 16, hr⟩ : Fin 16) (0 : Fin 1) c)
      (fun a => match a with | ⟨0, _⟩ => rfl | ⟨1, _⟩ => rfl | ⟨2, _⟩ => rfl | ⟨3, _⟩ => rfl | ⟨4, _⟩ => rfl | ⟨5, _⟩ => rfl),
    shapeCast_apply _ _ _ (ix3 (0 : Fin 1) (⟨r.val % 16, hr⟩ : Fin 16) c)
      (by
        rw [Shape.rowMajor_val_six, Shape.rowMajor_val_three]
        show (0 * 16 + r.val % 16) * 1024 + c.val = ((((0 * 1 + 0) * 1 + 0) * 16 + r.val % 16) * 1 + 0) * 1024 + c.val
        omega),
    shapeCast_apply _ _ _ (ix3 (⟨r.val % 16, hr⟩ : Fin 16) (0 : Fin 1) c)
      (by
        rw [Shape.rowMajor_val_three, Shape.rowMajor_val_three]
        show (r.val % 16 * 1 + 0) * 1024 + c.val = (0 * 16 + r.val % 16) * 1024 + c.val
        omega)]
  exact broadcastInDim_apply _ _ _ _ _ (fun a => match a with | ⟨0, _⟩ => rfl | ⟨1, _⟩ => rfl)

/-! ## The program -/

variable (m : (ℓ : Loc nD τ sig) → Buf (Elt F) ℓ) (ρ : Dev nD → PrngReg)

/-- The reference runs; it ends with `x` plus the tiled table in its result, and its arguments as they were. -/
theorem run_value :
    θ_run (defs (F := F)) (onTc (τ := τ) (main (F := F))) ⟨m, fun _ => 0, ρ⟩ fun r => ∀ c : Dev nD,
      r.2.mem ((c.tc : Thread nD τ).loc main_v8)
        = (addf (m ((c.tc : Thread nD τ).loc main_arg0) : FVec F S4x8192x1024 .f32) (tiled (m ((c.tc : Thread nD τ).loc main_arg1))) : FVec F S4x8192x1024 .f32)
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun _ h c => ⟨(h c).1.trans ?_, (h c).2⟩) (Cert.ReferenceIdeal.Value.run m ρ)
  exact congrArg (fun E => addf (m ((c.tc : Thread nD τ).loc main_arg0) : FVec F S4x8192x1024 .f32) (tiled E)) (taken_eq (m ((c.tc : Thread nD τ).loc main_arg1)))

/-- The reference runs; its arguments end unchanged, and it has no semaphores. -/
theorem frame_reference : Cert.quiescent_ReferenceIdeal := fun m ρ _ =>
  (θ_run Cert.ReferenceIdeal.defs _ _).mono (fun r h => ⟨fun c => (h c).2, sem_eq_zero_of_no_sems (by decide) r.2⟩) (run_value (F := Ideal) m ρ)

end Cert.Proof.PosAdd.Ref
-- ==== Proof.Equation.lean ====
/-
  The equation: the flat sum that the kernel leaves, reshaped, is `x` plus the tiled table; and from it the value claim.
-/
module

public import proofs.«01_k».proof.Proof.Launch
public import proofs.«01_k».proof.Proof.Reference

@[expose] public section

noncomputable section

namespace Cert.Proof.PosAdd

open Cert.KernelIdeal Cert.KernelIdeal.Gen
open Idealize.ShloMosaic Idealize.ShloMosaic.TcCoe Idealize.ShloMosaic.ValueIdx Idealize.SL.Sem

variable {F : FTy → Type} [FloatOps F]

/-- Element `(b, r, c)` stands at `(8192 b + r) 1024 + c` of the flat array, whose remainder by 16384 is the place of
    `(r mod 16, c)` in the flat table: so the kernel's sum and the reference's add the same two numbers there. -/
theorem flat_eq (X : FVec F S4x8192x1024 .f32) (E : FVec F S16x1024 .f32) :
    shapeCast S4x8192x1024 (res (shapeCast S33554432 X shapeCasts_S4x8192x1024_S33554432) (shapeCast S16384 E shapeCasts_S16x1024_S16384))
        shapeCasts_S33554432_S4x8192x1024
      = addf X (Ref.tiled E) := by
  funext j
  obtain ⟨b, r, c, rfl⟩ : ∃ b r c, j = ix3 b r c := ⟨_, _, _, eq_ix3 j⟩
  have hb := b.isLt
  have hr := r.isLt
  have hc := c.isLt
  have hp : (b.val * 8192 + r.val) * 1024 + c.val < 33554432 := by omega
  rw [shapeCast_apply _ _ (ix3 b r c) (ix1 (⟨(b.val * 8192 + r.val) * 1024 + c.val, hp⟩ : Fin 33554432))
    (by rw [Shape.rowMajor_val_one, Shape.rowMajor_val_three]; rfl)]
  show FloatOps.addf _ _ = FloatOps.addf (X (ix3 b r c)) (Ref.tiled E (ix3 b r c))
  rw [Ref.tiled_apply,
    shapeCast_apply X _ (ix1 (⟨(b.val * 8192 + r.val) * 1024 + c.val, hp⟩ : Fin 33554432)) (ix3 b r c)
      (by rw [Shape.rowMajor_val_one, Shape.rowMajor_val_three]; rfl),
    shapeCast_apply E _ _ (ix2 (⟨r.val % 16, Nat.mod_lt _ (by decide)⟩ : Fin 16) c)
      (by
        rw [Shape.rowMajor_val_one, Shape.rowMajor_val_two]
        show r.val % 16 * 1024 + c.val = ((b.val * 8192 + r.val) * 1024 + c.val) % 16384
        omega)]

/-- The kernel and the reference end with the same result, whatever the arguments. -/
theorem algebraic : Cert.algebraic_KernelIdeal_ReferenceIdeal := by
  intro m ρ m' ρ' _ hagree
  refine ⟨fun c => Rf m c, (θ_run Cert.KernelIdeal.defs _ _).mono (fun _ h c => h.1 c) (run_main (F := Ideal) m ρ), ?_⟩
  refine (θ_run Cert.ReferenceIdeal.defs _ _).mono (fun _ h c => ⟨(h c).1.trans ?_, (h c).2⟩) (Ref.run_value (F := Ideal) m' ρ')
  rw [(hagree c).1, (hagree c).2]
  exact (flat_eq _ _).symm

end Cert.Proof.PosAdd
-- ==== Proof.lean ====
/-
  The kernel program and its ideal reading run without fault, as does the reference, each leaving its arguments unchanged
  and every semaphore at zero; the ideal program is the kernel's own text; and the kernel and the reference end with the same
  result. The kernel's part is Proof/Launch.lean (over Blocks, AddLoop, Ring, Group, Tile, Task), the reference's is
  Proof/Reference.lean, and Proof/Equation.lean joins the two.
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Equation

@[expose] public section

noncomputable section

namespace Cert.Proof

/-- Everything that the certificate claims. -/
theorem claim : Cert.Claim :=
  ⟨Cert.Kernel.Gen.facts, Cert.KernelIdeal.Gen.facts, Cert.ReferenceIdeal.Gen.facts,
    PosAdd.frame_kernel, PosAdd.frame_ideal, PosAdd.Ref.frame_reference, trivial, PosAdd.algebraic⟩

end Cert.Proof

end
